-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_normal [hPre_scales_are_normal : Cert.Pre_scales_are_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_normal [hPre_scales_are_normal : Cert.Pre_scales_are_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_are_normal [hKernelIdeal : Cert.KernelIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_are_normal [hReferenceIdeal : Cert.ReferenceIdeal.Facts] [hPre_scales_are_normal : Cert.Pre_scales_are_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_are_normal [hKernelIdeal : Cert.KernelIdeal.Facts] [hReferenceIdeal : Cert.ReferenceIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_are_normal : Cert.Pre_scales_are_normal.Facts),
    quiescent_Kernel (hKernel := hKernel)
    ∧ quiescent_KernelIdeal (hKernelIdeal := hKernelIdeal)
    ∧ quiescent_KernelIdeal_pre_scales_are_normal (hKernelIdeal := hKernelIdeal) (hPre_scales_are_normal := hPre_scales_are_normal)
    ∧ quiescent_ReferenceIdeal (hReferenceIdeal := hReferenceIdeal)
    ∧ quiescent_ReferenceIdeal_pre_scales_are_normal (hReferenceIdeal := hReferenceIdeal) (hPre_scales_are_normal := hPre_scales_are_normal)
    ∧ preserves_Kernel_KernelIdeal
    ∧ algebraic_KernelIdeal_ReferenceIdeal_pre_scales_are_normal (hKernelIdeal := hKernelIdeal) (hReferenceIdeal := hReferenceIdeal) (hPre_scales_are_normal := hPre_scales_are_normal)
-- ==== Pre_scales_are_normal.lean ====
abbrev S6x10x14x768 : Shape := ⟨4, ![6, 10, 14, 768]⟩
abbrev S6x10x14x24 : Shape := ⟨4, ![6, 10, 14, 24]⟩
abbrev S3x3x768x1152 : Shape := ⟨4, ![3, 3, 768, 1152]⟩
abbrev S3x3x24x1152 : Shape := ⟨4, ![3, 3, 24, 1152]⟩
abbrev S1152 : Shape := ⟨1, ![1152]⟩
abbrev S_ : Shape := ⟨0, ![]⟩

class Facts : Prop where
  bcast_S_S6x10x14x24 : S_.BroadcastsInDim S6x10x14x24 (![] : Fin 0 → Fin S6x10x14x24.rank)
  bcast_S_S3x3x24x1152 : S_.BroadcastsInDim S3x3x24x1152 (![] : Fin 0 → Fin S3x3x24x1152.rank)

variable [Facts]

def fn {F : FTy → Type} [FloatOps F] (main_arg0 : FVec F S6x10x14x768 .fp8e4m3) (main_arg1 : IVec S6x10x14x24 8) (main_arg2 : FVec F S3x3x768x1152 .fp8e4m3) (main_arg3 : IVec S3x3x24x1152 8) (main_arg4 : FVec F S1152 .f32) : IVec S6x10x14x24 1 × IVec S6x10x14x24 1 × IVec S3x3x24x1152 1 × IVec S3x3x24x1152 1 :=
  let main_c : IVec S_ 8 := constantI S_ 8 0#8
  let main_v0 : IVec S6x10x14x24 8 := broadcastInDim S6x10x14x24 ![] bcast_S_S6x10x14x24 main_c
  let main_v1 : IVec S6x10x14x24 1 := cmpi .ne main_arg1 main_v0
  let main_c_0 : IVec S_ 8 := constantI S_ 8 255#8
  let main_v2 : IVec S6x10x14x24 8 := broadcastInDim S6x10x14x24 ![] bcast_S_S6x10x14x24 main_c_0
  let main_v3 : IVec S6x10x14x24 1 := cmpi .ne main_arg1 main_v2
  let main_c_1 : IVec S_ 8 := constantI S_ 8 0#8
  let main_v4 : IVec S3x3x24x1152 8 := broadcastInDim S3x3x24x1152 ![] bcast_S_S3x3x24x1152 main_c_1
  let main_v5 : IVec S3x3x24x1152 1 := cmpi .ne main_arg3 main_v4
  let main_c_2 : IVec S_ 8 := constantI S_ 8 255#8
  let main_v6 : IVec S3x3x24x1152 8 := broadcastInDim S3x3x24x1152 ![] bcast_S_S3x3x24x1152 main_c_2
  let main_v7 : IVec S3x3x24x1152 1 := cmpi .ne main_arg3 main_v6
  (main_v1, main_v3, main_v5, main_v7)
-- ==== Kernel.lean ====
abbrev S6x10x14x768 : Shape := ⟨4, ![6, 10, 14, 768]⟩
abbrev S6x10x14x24 : Shape := ⟨4, ![6, 10, 14, 24]⟩
abbrev S3x3x768x1152 : Shape := ⟨4, ![3, 3, 768, 1152]⟩
abbrev S3x3x24x1152 : Shape := ⟨4, ![3, 3, 24, 1152]⟩
abbrev S1152 : Shape := ⟨1, ![1152]⟩
abbrev S1x1152 : Shape := ⟨2, ![1, 1152]⟩
abbrev S6x10x14x1152 : Shape := ⟨4, ![6, 10, 14, 1152]⟩
abbrev S3x3x768x384 : Shape := ⟨4, ![3, 3, 768, 384]⟩
abbrev S3x3x24x384 : Shape := ⟨4, ![3, 3, 24, 384]⟩
abbrev S1x384 : Shape := ⟨2, ![1, 384]⟩
abbrev S6x10x14x384 : Shape := ⟨4, ![6, 10, 14, 384]⟩
abbrev S7x1512x128 : Shape := ⟨3, ![7, 1512, 128]⟩
abbrev S1032x384 : Shape := ⟨2, ![1032, 384]⟩
abbrev S14x128 : Shape := ⟨2, ![14, 128]⟩
abbrev S1x1x14x24 : Shape := ⟨4, ![1, 1, 14, 24]⟩
abbrev S14x24 : Shape := ⟨2, ![14, 24]⟩
abbrev S14x104 : Shape := ⟨2, ![14, 104]⟩
abbrev S14x128x1 : Shape := ⟨3, ![14, 128, 1]⟩
abbrev S1x1x14x128 : Shape := ⟨4, ![1, 1, 14, 128]⟩
abbrev S1x1512x128 : Shape := ⟨3, ![1, 1512, 128]⟩
abbrev S1512x128 : Shape := ⟨2, ![1512, 128]⟩
abbrev S1x1032x128 : Shape := ⟨3, ![1, 1032, 128]⟩
abbrev S1032x128 : Shape := ⟨2, ![1032, 128]⟩
abbrev S1032x768 : Shape := ⟨2, ![1032, 768]⟩
abbrev S1x1x24x384 : Shape := ⟨4, ![1, 1, 24, 384]⟩
abbrev S24x384 : Shape := ⟨2, ![24, 384]⟩
abbrev S24x1x384 : Shape := ⟨3, ![24, 1, 384]⟩
abbrev S24x32x384 : Shape := ⟨3, ![24, 32, 384]⟩
abbrev S768x384 : Shape := ⟨2, ![768, 384]⟩
abbrev S1x1x768x384 : Shape := ⟨4, ![1, 1, 768, 384]⟩

abbrev nBuf : Space → Nat
  | .hbm => 7
  | .vmem => 12
  | .smem => 0
  | _ => 0

abbrev bufTy : (tb : Table) → Fin (tcTables nBuf tb) → BufTy
  | .hbm, ⟨0, _⟩ => ⟨S6x10x14x768, .fp8e4m3⟩
  | .hbm, ⟨1, _⟩ => ⟨S6x10x14x24, .i8⟩
  | .hbm, ⟨2, _⟩ => ⟨S3x3x768x1152, .fp8e4m3⟩
  | .hbm, ⟨3, _⟩ => ⟨S3x3x24x1152, .i8⟩
  | .hbm, ⟨4, _⟩ => ⟨S1152, .f32⟩
  | .hbm, ⟨5, _⟩ => ⟨S1x1152, .f32⟩
  | .hbm, ⟨6, _⟩ => ⟨S6x10x14x1152, .bf16⟩
  | .local _ .vmem, ⟨0, _⟩ => ⟨S6x10x14x768, .fp8e4m3⟩
  | .local _ .vmem, ⟨1, _⟩ => ⟨S6x10x14x24, .i8⟩
  | .local _ .vmem, ⟨2, _⟩ => ⟨S3x3x768x384, .fp8e4m3⟩
  | .local _ .vmem, ⟨3, _⟩ => ⟨S3x3x768x384, .fp8e4m3⟩
  | .local _ .vmem, ⟨4, _⟩ => ⟨S3x3x24x384, .i8⟩
  | .local _ .vmem, ⟨5, _⟩ => ⟨S3x3x24x384, .i8⟩
  | .local _ .vmem, ⟨6, _⟩ => ⟨S1x384, .f32⟩
  | .local _ .vmem, ⟨7, _⟩ => ⟨S1x384, .f32⟩
  | .local _ .vmem, ⟨8, _⟩ => ⟨S6x10x14x384, .bf16⟩
  | .local _ .vmem, ⟨9, _⟩ => ⟨S6x10x14x384, .bf16⟩
  | .local _ .vmem, ⟨10, _⟩ => ⟨S7x1512x128, .f32⟩
  | .local _ .vmem, ⟨11, _⟩ => ⟨S1032x384, .f32⟩
  | _, _ => ⟨S6x10x14x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 1 → Memref sig .tc .vmem S6x10x14x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x10x14x24 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x3x768x384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x3x24x384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x10x14x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S6x10x14x768 : Shape := ⟨4, ![6, 10, 14, 768]⟩
abbrev S6x10x14x24 : Shape := ⟨4, ![6, 10, 14, 24]⟩
abbrev S3x3x768x1152 : Shape := ⟨4, ![3, 3, 768, 1152]⟩
abbrev S3x3x24x1152 : Shape := ⟨4, ![3, 3, 24, 1152]⟩
abbrev S1152 : Shape := ⟨1, ![1152]⟩
abbrev S1x1152 : Shape := ⟨2, ![1, 1152]⟩
abbrev S6x10x14x1152 : Shape := ⟨4, ![6, 10, 14, 1152]⟩
abbrev S6x10x14x24x32 : Shape := ⟨5, ![6, 10, 14, 24, 32]⟩
abbrev S6x10x14x24x1 : Shape := ⟨5, ![6, 10, 14, 24, 1]⟩
abbrev S3x3x24x32x1152 : Shape := ⟨5, ![3, 3, 24, 32, 1152]⟩
abbrev S3x3x24x1x1152 : Shape := ⟨5, ![3, 3, 24, 1, 1152]⟩
abbrev S6x2x14x768 : Shape := ⟨4, ![6, 2, 14, 768]⟩
abbrev S6x12x14x768 : Shape := ⟨4, ![6, 12, 14, 768]⟩
abbrev S6x14x14x768 : Shape := ⟨4, ![6, 14, 14, 768]⟩
abbrev S6x14x2x768 : Shape := ⟨4, ![6, 14, 2, 768]⟩
abbrev S6x14x16x768 : Shape := ⟨4, ![6, 14, 16, 768]⟩
abbrev S6x14x18x768 : Shape := ⟨4, ![6, 14, 18, 768]⟩
abbrev S840x1152 : Shape := ⟨2, ![840, 1152]⟩
abbrev S840x768 : Shape := ⟨2, ![840, 768]⟩
abbrev S1x1x768x1152 : Shape := ⟨4, ![1, 1, 768, 1152]⟩
abbrev S768x1152 : Shape := ⟨2, ![768, 1152]⟩

abbrev nBuf : Space → Nat
  | .hbm => 7
  | .vmem => 6
  | .smem => 0
  | _ => 0

abbrev bufTy : (tb : Table) → Fin (tcTables nBuf tb) → BufTy
  | .hbm, ⟨0, _⟩ => ⟨S6x10x14x768, .fp8e4m3⟩
  | .hbm, ⟨1, _⟩ => ⟨S6x10x14x24, .i8⟩
  | .hbm, ⟨2, _⟩ => ⟨S3x3x768x1152, .fp8e4m3⟩
  | .hbm, ⟨3, _⟩ => ⟨S3x3x24x1152, .i8⟩
  | .hbm, ⟨4, _⟩ => ⟨S1152, .f32⟩
  | .hbm, ⟨5, _⟩ => ⟨S1x1152, .f32⟩
  | .hbm, ⟨6, _⟩ => ⟨S6x10x14x1152, .bf16⟩
  | .local _ .vmem, ⟨0, _⟩ => ⟨S6x10x14x768, .fp8e4m3⟩
  | .local _ .vmem, ⟨1, _⟩ => ⟨S6x10x14x24, .i8⟩
  | .local _ .vmem, ⟨2, _⟩ => ⟨S3x3x768x1152, .fp8e4m3⟩
  | .local _ .vmem, ⟨3, _⟩ => ⟨S3x3x24x1152, .i8⟩
  | .local _ .vmem, ⟨4, _⟩ => ⟨S1x1152, .f32⟩
  | .local _ .vmem, ⟨5, _⟩ => ⟨S6x10x14x1152, .bf16⟩
  | _, _ => ⟨S6x10x14x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x10x14x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x10x14x24 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x768x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x24x1152 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x10x14x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Conv.Loop.lean ====
/- The kernel function of `KernelIdeal` written as loops. The printed function is unrolled: 360 scaled lines stored
   into the carried buffer at the first grid point, nine taps, 180 output lines. Here each kind of group is defined
   once, at symbolic coordinates, with the program that follows it as an argument. -/
module

public import proofs.«01_k».proof.Proof.Gen.KernelIdeal.Skeleton

@[expose] public section

noncomputable section

namespace Cert.KernelIdeal.Conv

open Idealize.ShloMosaic Idealize.SL.Sem Cert.KernelIdeal Cert.KernelIdeal.Gen

variable {F : FTy → Type} [FloatOps F]

/-- The type of a piece of the kernel function. -/
abbrev P (F : FTy → Type) [FloatOps F] := Prog (TpuEff nD τ sig (Elt F) Λ₀ .tc) PUnit

/-- The first row, inside a slab of the carried buffer, of the line `(b, h)` of the padded image. -/
def row (b : Fin 6) (h : Fin 10) : Nat := ((h.val / 2 + 1) * 9 + 1) * 24 + h.val % 2 * 6 + b.val

/-- The first row, inside the scratch slab, of the output line `(b, h)`. -/
def orow (b : Fin 6) (h : Fin 10) : Nat := h.val / 2 * 216 + h.val % 2 * 6 + b.val

theorem inb_line (r : Nat) (hr : r < 1356) :
    ∀ a, S14x128.size a = 0 ∨ (![r, 0] : Fin 2 → Nat) a + (![12, 1] : Fin 2 → Nat) a * (S14x128.size a - 1) < S1512x128.size a := by
  intro a; right; revert a; intro (a : Fin 2)
  fin_cases a
  · show r + 12 * 13 < 1512; omega
  · show 0 + 1 * 127 < 128; omega

theorem row_lt (b : Fin 6) (h : Fin 10) : row b h < 1356 := by have := b.2; have := h.2; unfold row; omega
theorem orow_lt (b : Fin 6) (h : Fin 10) : orow b h < 1356 := by have := b.2; have := h.2; unfold orow; omega

/-- The strided rectangle of 14 rows, 12 apart, from row `r`. -/
abbrev line (r : Nat) (hr : r < 1356) : LoadRect S1512x128 := ⟨![r, 0], S14x128.size, ![12, 1], inb_line r hr⟩

theorem inb_slab (s : Fin 7) : ∀ a, (![s.val, 0, 0] : Fin 3 → Nat) a + S1x1512x128.size a ≤ S7x1512x128.size a := by
  revert s; decide

theorem inb_xs (b : Fin 6) (h : Fin 10) : ∀ a, (![b.val, h.val, 0, 0] : Fin 4 → Nat) a + S1x1x14x24.size a ≤ S6x10x14x24.size a := by
  revert b h; decide

theorem inb_x (b : Fin 6) (h : Fin 10) (s : Fin 6) :
    ∀ a, (![b.val, h.val, 0, 128 * s.val] : Fin 4 → Nat) a + S1x1x14x128.size a ≤ S6x10x14x768.size a := by
  revert b h s; decide

theorem inb_o (b : Fin 6) (h : Fin 10) (c : Fin 3) :
    ∀ a, (![b.val, h.val, 0, 128 * c.val] : Fin 4 → Nat) a + S1x1x14x128.size a ≤ S6x10x14x384.size a := by
  revert b h c; decide

theorem packed_o (b : Fin 6) (h : Fin 10) (c : Fin 3) :
    (Rect.unit (s := S6x10x14x384) ![b.val, h.val, 0, 128 * c.val] S1x1x14x128.size (inb_o b h c)).PackedRows (EltTy.packing .bf16) := by
  revert b h c; decide

theorem inb_acc (c : Fin 3) : ∀ a, (![0, 128 * c.val] : Fin 2 → Nat) a + S1032x128.size a ≤ S1032x384.size a := by
  revert c; decide

theorem inb_tap (s : Fin 6) (kh kw : Fin 3) :
    ∀ a, (![s.val, (kh.val * 9 + kw.val) * 24, 0] : Fin 3 → Nat) a + S1x1032x128.size a ≤ S7x1512x128.size a := by
  revert s kh kw; decide

theorem inb_w (kh kw : Fin 3) : ∀ a, (![kh.val, kw.val, 0, 0] : Fin 4 → Nat) a + S1x1x768x384.size a ≤ S3x3x768x384.size a := by
  revert kh kw; decide

theorem inb_ws (kh kw : Fin 3) : ∀ a, (![kh.val, kw.val, 0, 0] : Fin 4 → Nat) a + S1x1x24x384.size a ≤ S3x3x24x384.size a := by
  revert kh kw; decide

section
variable (arg1 : Memref sig .tc .vmem S6x10x14x768 .fp8e4m3) (arg2 : Memref sig .tc .vmem S6x10x14x24 .i8)
  (arg3 : Memref sig .tc .vmem S3x3x768x384 .fp8e4m3) (arg4 : Memref sig .tc .vmem S3x3x24x384 .i8)
  (arg5 : Memref sig .tc .vmem S1x384 .f32) (arg6 : Memref sig .tc .vmem S6x10x14x384 .bf16) (harg6 : arg6.IsWhole)
  (arg7 : Memref sig .tc .vmem S7x1512x128 .f32) (arg8 : Memref sig .tc .vmem S1032x384 .f32)

/-- Slab `s` of the carried buffer as a memref of its own. -/
abbrev slab (s : Fin 7) : Memref sig .tc .vmem S1512x128 .f32 :=
  (arg7.slice (Rect.unit (s := S7x1512x128) ![s.val, 0, 0] S1x1512x128.size (inb_slab s)) (fun _ => rfl)).squeeze S1512x128
    squeezes_S1x1512x128_S1512x128

/-- The carried buffer is set to zero. -/
def zeroX (k : P F) : P F :=
  .op (.load arg7 (Rect.unit (s := S7x1512x128) ![0, 0, 0] S7x1512x128.size inb_S7x1512x128_S7x1512x128_0_0_0).toLoadRect (View.loadsAt_vmem h_S7x1512x128)) fun _ =>
  .op (.store arg7 (Rect.unit (s := S7x1512x128) ![0, 0, 0] S7x1512x128.size inb_S7x1512x128_S7x1512x128_0_0_0) (k0_pay1 (F := F)) Finset.univ (View.stores_vmem_bits_univ h_S7x1512x128 rfl) (.inl rfl)) fun _ => k

/-- What is stored for slab `s` of a line: the line's 128 channels, each times its block's scale. -/
abbrev scaled (s : Fin 6) (xs : Vec F S1x1x14x24 .i8) (x : Vec F S1x1x14x128 .fp8e4m3) : FVec F S14x128 .f32 :=
  k0_pay8 k0_pay2 (k0_pay3 xs) (BitVec.ofNat 32 (4 * s.val)) x

/-- Slab `s` of the line `(b, h)`, whose scales are `xs`, is scaled and stored. -/
def fillS (b : Fin 6) (h : Fin 10) (s : Fin 6) (xs : Vec F S1x1x14x24 .i8) (k : P F) : P F :=
  .op (.load arg1 (Rect.unit (s := S6x10x14x768) ![b.val, h.val, 0, 128 * s.val] S1x1x14x128.size (inb_x b h s)).toLoadRect (View.loadsAt_vmem h_S1x1x14x128)) fun x =>
  .op (.load (slab arg7 s.castSucc) (line (row b h) (row_lt b h)) (View.loadsAt_vmem h_S14x128)) fun _ =>
  .op (.store (slab arg7 s.castSucc) ⟨line (row b h) (row_lt b h), spos_12_1⟩ (scaled s xs x) Finset.univ (View.stores_vmem_bits_univ h_S14x128 rfl) (.inl rfl)) fun _ => k

/-- The six slabs of the line `(b, h)` are scaled and stored. -/
def fillLine (b : Fin 6) (h : Fin 10) (k : P F) : P F :=
  .op (.load arg2 (Rect.unit (s := S6x10x14x24) ![b.val, h.val, 0, 0] S1x1x14x24.size (inb_xs b h)).toLoadRect (View.loadsAt_vmem h_S1x1x14x24)) fun xs =>
  fillS arg1 arg7 b h 0 xs (fillS arg1 arg7 b h 1 xs (fillS arg1 arg7 b h 2 xs (fillS arg1 arg7 b h 3 xs (fillS arg1 arg7 b h 4 xs
    (fillS arg1 arg7 b h 5 xs k)))))

/-- The lines of a list, in order. -/
def fillLines (l : List (Fin 6 × Fin 10)) (k : P F) : P F := l.foldr (fun p k => fillLine arg1 arg2 arg7 p.1 p.2 k) k

/-- The accumulator is set to the bias, at every row. -/
def initAcc (k : P F) : P F :=
  .op (.load arg5 (Rect.unit (s := S1x384) ![0, 0] S1x384.size inb_S1x384_S1x384_0_0).toLoadRect (View.loadsAt_vmem h_S1x384)) fun v =>
  .op (.load arg8 (Rect.unit (s := S1032x384) ![0, 0] S1032x384.size inb_S1032x384_S1032x384_0_0).toLoadRect (View.loadsAt_vmem h_S1032x384)) fun _ =>
  .op (.store arg8 (Rect.unit (s := S1032x384) ![0, 0] S1032x384.size inb_S1032x384_S1032x384_0_0) (k0_pay662 v) Finset.univ (View.stores_vmem_bits_univ h_S1032x384 rfl) (.inl rfl)) fun _ => k

/-- The rows of slab `s` the tap `(kh, kw)` reads. -/
abbrev tapRect (s : Fin 6) (kh kw : Fin 3) : Rect S7x1512x128 :=
  Rect.unit (s := S7x1512x128) ![s.val, (kh.val * 9 + kw.val) * 24, 0] S1x1032x128.size (inb_tap s kh kw)

/-- The tap `(kh, kw)`: the six slabs' rows side by side, times the scaled weights, added to the accumulator. -/
def tap (kh kw : Fin 3) (k : P F) : P F :=
  .op (.load arg7 (tapRect 0 kh kw).toLoadRect (View.loadsAt_vmem h_S1x1032x128)) fun a0 =>
  .op (.load arg7 (tapRect 1 kh kw).toLoadRect (View.loadsAt_vmem h_S1x1032x128)) fun a1 =>
  .op (.load arg7 (tapRect 2 kh kw).toLoadRect (View.loadsAt_vmem h_S1x1032x128)) fun a2 =>
  .op (.load arg7 (tapRect 3 kh kw).toLoadRect (View.loadsAt_vmem h_S1x1032x128)) fun a3 =>
  .op (.load arg7 (tapRect 4 kh kw).toLoadRect (View.loadsAt_vmem h_S1x1032x128)) fun a4 =>
  .op (.load arg7 (tapRect 5 kh kw).toLoadRect (View.loadsAt_vmem h_S1x1032x128)) fun a5 =>
  .op (.load arg4 (Rect.unit (s := S3x3x24x384) ![kh.val, kw.val, 0, 0] S1x1x24x384.size (inb_ws kh kw)).toLoadRect (View.loadsAt_vmem h_S1x1x24x384)) fun ws =>
  .op (.load arg3 (Rect.unit (s := S3x3x768x384) ![kh.val, kw.val, 0, 0] S1x1x768x384.size (inb_w kh kw)).toLoadRect (View.loadsAt_vmem h_S1x1x768x384)) fun w =>
  .op (.load arg8 (Rect.unit (s := S1032x384) ![0, 0] S1032x384.size inb_S1032x384_S1032x384_0_0).toLoadRect (View.loadsAt_vmem h_S1032x384)) fun acc =>
  .op (.load arg8 (Rect.unit (s := S1032x384) ![0, 0] S1032x384.size inb_S1032x384_S1032x384_0_0).toLoadRect (View.loadsAt_vmem h_S1032x384)) fun _ =>
  .op (.store arg8 (Rect.unit (s := S1032x384) ![0, 0] S1032x384.size inb_S1032x384_S1032x384_0_0) (k0_pay664 (k0_pay663 a0 a1 a2 a3 a4 a5) ws w acc) Finset.univ (View.stores_vmem_bits_univ h_S1032x384 rfl) (.inl rfl)) fun _ => k

/-- The taps of a list, in order. -/
def taps (l : List (Fin 3 × Fin 3)) (k : P F) : P F := l.foldr (fun p k => tap arg3 arg4 arg7 arg8 p.1 p.2 k) k

/-- The rectangle of the output block the line `(b, h)` of the 128 columns `c` is stored to. -/
abbrev outRect (b : Fin 6) (h : Fin 10) (c : Fin 3) : Rect S6x10x14x384 :=
  Rect.unit (s := S6x10x14x384) ![b.val, h.val, 0, 128 * c.val] S1x1x14x128.size (inb_o b h c)

/-- The output line `(b, h)` of the 128 columns `c`: the columns are copied to the scratch slab, the line's rows are
    read from it, rounded and stored. -/
def outLine (b : Fin 6) (h : Fin 10) (c : Fin 3) (k : P F) : P F :=
  .op (.load arg8 (Rect.unit (s := S1032x384) ![0, 128 * c.val] S1032x128.size (inb_acc c)).toLoadRect (View.loadsAt_vmem h_S1032x128)) fun v =>
  .op (.load (slab arg7 6) (Rect.unit (s := S1512x128) ![0, 0] S1032x128.size inb_S1512x128_S1032x128_0_0).toLoadRect (View.loadsAt_vmem h_S1032x128)) fun _ =>
  .op (.store (slab arg7 6) (Rect.unit (s := S1512x128) ![0, 0] S1032x128.size inb_S1512x128_S1032x128_0_0) (k0_pay727 v) Finset.univ (View.stores_vmem_bits_univ h_S1032x128 rfl) (.inl rfl)) fun _ =>
  .op (.load (slab arg7 6) (line (orow b h) (orow_lt b h)) (View.loadsAt_vmem h_S14x128)) fun y =>
  .op (.load arg6 (outRect b h c).toLoadRect (View.loadsAt_vmem h_S1x1x14x128)) fun _ =>
  .op (.store arg6 (outRect b h c) (k0_pay728 y) Finset.univ (View.stores_vmem h_S1x1x14x128 (harg6.storeExact_slice rfl _ (packed_o b h c)) (fun _ => rfl)) (.inl rfl)) fun _ => k

/-- The output lines of a list, in order. -/
def outLines (l : List (Fin 3 × Fin 6 × Fin 10)) (k : P F) : P F :=
  l.foldr (fun p k => outLine arg6 harg6 arg7 arg8 p.2.1 p.2.2 p.1 k) k

end

/-- All values of the batch and row coordinates, in the order the kernel takes them. -/
def allLines : List (Fin 6 × Fin 10) := [0, 1, 2, 3, 4, 5].flatMap fun b => [0, 1, 2, 3, 4, 5, 6, 7, 8, 9].map fun h => (b, h)
/-- All taps, in order. -/
def allTaps : List (Fin 3 × Fin 3) := [0, 1, 2].flatMap fun kh => [0, 1, 2].map fun kw => (kh, kw)
/-- All output lines, in order. -/
def allOut : List (Fin 3 × Fin 6 × Fin 10) := [0, 1, 2].flatMap fun c => allLines.map fun p => (c, p)

section
variable (i : grid0.Coords) (arg1 : Memref sig .tc .vmem S6x10x14x768 .fp8e4m3) (harg1 : arg1.IsWhole) (arg2 : Memref sig .tc .vmem S6x10x14x24 .i8) (harg2 : arg2.IsWhole) (arg3 : Memref sig .tc .vmem S3x3x768x384 .fp8e4m3) (harg3 : arg3.IsWhole) (arg4 : Memref sig .tc .vmem S3x3x24x384 .i8) (harg4 : arg4.IsWhole) (arg5 : Memref sig .tc .vmem S1x384 .f32) (harg5 : arg5.IsWhole) (arg6 : Memref sig .tc .vmem S6x10x14x384 .bf16) (harg6 : arg6.IsWhole) (arg7 : Memref sig .tc .vmem S7x1512x128 .f32) (harg7 : arg7.IsWhole) (arg8 : Memref sig .tc .vmem S1032x384 .f32) (harg8 : arg8.IsWhole)

/-- What the kernel does at every grid point: bias, taps, output. -/
def main : P F :=
  initAcc arg5 arg8 (taps arg3 arg4 arg7 arg8 allTaps (outLines arg6 harg6 arg7 arg8 allOut (.ret ⟨⟩)))

/-- The kernel's test for the first grid point. -/
abbrev first (i : grid0.Coords) : Prop :=
  Scalar.cmpi .ne (Scalar.extui (Scalar.cmpi .eq (BitVec.ofNat 32 (i 0).val) 0#32) : BitVec 32) 0#32 = 1#1

set_option maxRecDepth 1000000 in
/-- At the first grid point the printed kernel function fills the carried buffer and then runs `main`. -/
theorem printed_first (h : first i) :
    cc0_mxfp8_dilated_conv (F := F) i arg1 harg1 arg2 harg2 arg3 harg3 arg4 harg4 arg5 harg5 arg6 harg6 arg7 harg7 arg8 harg8
      = zeroX arg7 (fillLines arg1 arg2 arg7 allLines (main arg3 arg4 arg5 arg6 harg6 arg7 arg8)) := by
  have e : k0_part211 (F := F) i arg1 harg1 arg2 harg2 arg3 harg3 arg4 harg4 arg5 harg5 arg6 harg6 arg7 harg7 arg8 harg8 = _ := dif_pos h
  unfold cc0_mxfp8_dilated_conv k0_part315
  rw [e]
  rfl

set_option maxRecDepth 1000000 in
/-- At the other grid points the printed kernel function runs `main`. -/
theorem printed_other (h : ¬ first i) :
    cc0_mxfp8_dilated_conv (F := F) i arg1 harg1 arg2 harg2 arg3 harg3 arg4 harg4 arg5 harg5 arg6 harg6 arg7 harg7 arg8 harg8
      = main arg3 arg4 arg5 arg6 harg6 arg7 arg8 := by
  have e : k0_part211 (F := F) i arg1 harg1 arg2 harg2 arg3 harg3 arg4 harg4 arg5 harg5 arg6 harg6 arg7 harg7 arg8 harg8 = _ := dif_neg h
  unfold cc0_mxfp8_dilated_conv k0_part315
  rw [e]
  rfl

end

end Cert.KernelIdeal.Conv
-- ==== Proof.Conv.Mem.lean ====
/- Loads and stores through a memref held at known contents (`owns`), and through a squeezed slice of it. A store
   replaces the contents at the places of its elements (`upd`) and leaves the others. -/
module

public import Idealize.ShloMosaic.Lib.Memref
public import Idealize.ShloMosaic.Rules.Step

@[expose] public section

noncomputable section

namespace Cert.Conv

open Idealize.ShloMosaic
open Idealize.SL Idealize.SL.RA Idealize.SL.Sem Idealize.SL.ProofMode
open Idealize.SL.BI (sProp)
open scoped Idealize.SL.BI
open Idealize.SL.BI.BIBase Idealize.SL.BI.Laws

section Upd
variable {ι κ α : Type}

open Classical in
/-- `X` with the values `w` put at the places `φ`. -/
def upd (φ : ι → κ) (X : κ → α) (w : ι → α) : κ → α :=
  fun j => if h : ∃ z, φ z = j then w h.choose else X j

/-- At a place of `φ` the new value is seen. -/
theorem upd_hit {φ : ι → κ} (hφ : Function.Injective φ) (X : κ → α) (w : ι → α) (z : ι) : upd φ X w (φ z) = w z := by
  have h : ∃ y, φ y = φ z := ⟨z, rfl⟩
  unfold upd
  rw [dif_pos h, hφ h.choose_spec]

/-- At any other place the old value is seen. -/
theorem upd_miss {φ : ι → κ} (X : κ → α) (w : ι → α) {j : κ} (h : ∀ z, φ z ≠ j) : upd φ X w j = X j :=
  dif_neg fun ⟨z, hz⟩ => h z hz

/-- A function with these two properties is the update. -/
theorem eq_upd {φ : ι → κ} (hφ : Function.Injective φ) {X Y : κ → α} {w : ι → α} (hit : ∀ z, Y (φ z) = w z)
    (miss : ∀ j, (∀ z, φ z ≠ j) → Y j = X j) : Y = upd φ X w := by
  funext j
  by_cases h : ∃ z, φ z = j
  · obtain ⟨z, rfl⟩ := h
    rw [hit, upd_hit hφ]
  · have h' : ∀ z, φ z ≠ j := fun z hz => h ⟨z, hz⟩
    rw [miss j h', upd_miss X w h']

/-- Values put at every place replace everything. -/
theorem upd_all {φ : ι → ι} (hφ : ∀ z, φ z = z) (X w : ι → α) : upd φ X w = w := by
  have h : φ = id := funext hφ
  subst h
  exact (eq_upd Function.injective_id (fun _ => rfl) fun j h => absurd rfl (h j)).symm

end Upd

section Rules
variable {nD : Nat} {τ : Topo} {sig : RefSig} {Ix : Type} [DecidableEq Ix]
variable {Val : EltTy → Type} {Name : Type} [DecidableEq Name]
variable {U : Type} [URA U]
variable {Lvl : Type} {Λ : Labels} [Preorder Lvl] {defs : Defs nD τ sig Val Λ} (𝒱 : Variants) (c : Thread nD τ)
  (bd : Option 𝒱.V) {Γ : PendingWaitsCtx sig Ix} (E : Set Name)
variable {cs : CoreSpace} {s : Shape} {e : EltTy} {α : Type}
local notation "𝕄" => MT nD τ sig Ix Val Name U Lvl
variable {Q : α → sProp (MT nD τ sig Ix Val Name U Lvl)}

/-- A load of a memref held at `X` reads `X` at the indices of the load. -/
theorem owns_load (m : Memref sig c.2.kind cs s e) {r : LoadRect s} {hl : m.view.LoadsAt r}
    {k : (r.shape.Idx → Val e) → Prog (TpuEff nD τ sig Val Λ c.2) α} {q : PosShare TreeShare} (X : s.Idx → Val e) :
    (owns c m q X : sProp 𝕄)
      ⊢ iprop((owns c m q X -∗ wp frame (wpE' defs 𝒱 c bd Γ) E (k fun j => X (r.idx j)) Q)
        -∗ wp frame (wpE' defs 𝒱 c bd Γ) E (.op (.load m r hl) k) Q) := by
  unfold owns
  iintro ⟨%f, %hf, H⟩ Hk
  subst hf
  iapply (wp_load 𝒱 c bd E (m := m) (r := r) (hl := hl) (S := m.view.set) (m.view.setOn_subset_set _)) $$ H
  iintro H
  iapply Hk
  iexists f
  isplitr; · ipureintro; rfl
  iexact H

theorem emb_injective (r : Rect s) : Function.Injective r.emb := r.emb.injective

/-- A store into a memref held at `X` leaves it at `X` with the stored values at the rectangle's places. -/
theorem owns_store (m : Memref sig c.2.kind cs s e) {r : Rect s} {w : r.shape.Idx → Val e}
    {hx : (m.access r).Stores Finset.univ} {hm : Finset.univ = Finset.univ ∨ ∀ a, r.stride a = 1}
    {k : PUnit → Prog (TpuEff nD τ sig Val Λ c.2) α} (X : s.Idx → Val e) :
    (owns c m fullShare X : sProp 𝕄)
      ⊢ iprop((owns c m fullShare (upd r.emb X w) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  subst hf
  iapply (wp_store 𝒱 c bd E (m := m) (r := r) (S := m.view.set) (m.setOn_access_subset r _)) $$ H
  iintro H
  iapply Hk
  iexists ((m.access r).write Val f w Finset.univ)
  isplitr
  · ipureintro
    refine eq_upd r.emb.injective (fun z => ?_) fun j hj => ?_
    · exact View.read_write_of_mem (v := m.access r) f w (Finset.mem_univ z)
    · rw [View.read_apply, View.read_apply, View.write_of_not_mem]
      intro hmem
      obtain ⟨z, -, hz⟩ := Finset.mem_map.mp hmem
      exact hj z (m.view.emb.injective hz)
  iexact H

/-- The place, in the sliced memref, of an element of a load or store through the squeezed slice. -/
abbrev place (r₁ : Rect s) {s' : Shape} (h : r₁.shape.Squeezes s') (j : s'.Idx) : s.Idx :=
  r₁.emb (Shape.reshapeEquiv h.numel_eq j)

theorem place_injective (r₁ : Rect s) {s' : Shape} (h : r₁.shape.Squeezes s') : Function.Injective (place r₁ h) :=
  fun _ _ e => (Shape.reshapeEquiv h.numel_eq).injective (r₁.emb.injective e)

theorem set_part_subset (m : Memref sig c.2.kind cs s e) (r₁ : Rect s) (hr₁ : ∀ a, r₁.stride a = 1) {s' : Shape}
    (h : r₁.shape.Squeezes s') : ((m.slice r₁ hr₁).squeeze s' h).view.set ⊆ m.view.set := by
  intro i hi
  have hi' : i ∈ ((m.view.slice r₁).reshape s' h.numel_eq).set := hi
  rw [View.set_reshape] at hi'
  exact m.view.set_slice_subset r₁ hi'

/-- A load through a squeezed slice of a memref held at `X` reads `X` at the places of the load. -/
theorem owns_load_part (m : Memref sig c.2.kind cs s e) {r₁ : Rect s} {hr₁ : ∀ a, r₁.stride a = 1} {s' : Shape}
    {h : r₁.shape.Squeezes s'} {r : LoadRect s'} {hl : ((m.slice r₁ hr₁).squeeze s' h).view.LoadsAt r}
    {k : (r.shape.Idx → Val e) → Prog (TpuEff nD τ sig Val Λ c.2) α} {q : PosShare TreeShare} (X : s.Idx → Val e) :
    (owns c m q X : sProp 𝕄)
      ⊢ iprop((owns c m q X -∗ wp frame (wpE' defs 𝒱 c bd Γ) E (k fun j => X (place r₁ h (r.idx j))) Q)
        -∗ wp frame (wpE' defs 𝒱 c bd Γ) E (.op (.load ((m.slice r₁ hr₁).squeeze s' h) r hl) k) Q) := by
  unfold owns
  iintro ⟨%f, %hf, H⟩ Hk
  subst hf
  iapply (wp_load 𝒱 c bd E (m := (m.slice r₁ hr₁).squeeze s' h) (r := r) (hl := hl) (S := m.view.set)
    ((View.setOn_subset_set _ _).trans (set_part_subset c m r₁ hr₁ h))) $$ H
  iintro H
  iapply Hk
  iexists f
  isplitr; · ipureintro; rfl
  iexact H

/-- A store through a squeezed slice of a memref held at `X` puts the stored values at their places. -/
theorem owns_store_part (m : Memref sig c.2.kind cs s e) {r₁ : Rect s} {hr₁ : ∀ a, r₁.stride a = 1} {s' : Shape}
    {h : r₁.shape.Squeezes s'} {r : Rect s'} {w : r.shape.Idx → Val e}
    {hx : (((m.slice r₁ hr₁).squeeze s' h).access r).Stores Finset.univ}
    {hm : Finset.univ = Finset.univ ∨ ∀ a, r.stride a = 1}
    {k : PUnit → Prog (TpuEff nD τ sig Val Λ c.2) α} (X : s.Idx → Val e) :
    (owns c m fullShare X : sProp 𝕄)
      ⊢ iprop((owns c m fullShare (upd (fun z => place r₁ h (r.emb z)) X w) -∗ wp frame (wpE' defs 𝒱 c bd Γ) E (k ⟨⟩) Q)
        -∗ wp frame (wpE' defs 𝒱 c bd Γ) E (.op (.store ((m.slice r₁ hr₁).squeeze s' h) r w Finset.univ hx hm) k) Q) := by
  unfold owns
  iintro ⟨%f, %hf, H⟩ Hk
  subst hf
  iapply (wp_store 𝒱 c bd E (m := (m.slice r₁ hr₁).squeeze s' h) (r := r) (S := m.view.set)
    ((((m.slice r₁ hr₁).squeeze s' h).setOn_access_subset r _).trans (set_part_subset c m r₁ hr₁ h))) $$ H
  iintro H
  iapply Hk
  iexists ((((m.slice r₁ hr₁).squeeze s' h).access r).write Val f w Finset.univ)
  isplitr
  · ipureintro
    refine eq_upd (fun a b hab => r.emb.injective (place_injective r₁ h hab)) (fun z => ?_) fun j hj => ?_
    · exact View.read_write_of_mem (v := ((m.slice r₁ hr₁).squeeze s' h).access r) f w (Finset.mem_univ z)
    · rw [View.read_apply, View.read_apply]
      refine congrArg _ (View.write_of_not_mem (v := ((m.slice r₁ hr₁).squeeze s' h).access r) f w Finset.univ ?_)
      intro hmem
      obtain ⟨z, -, hz⟩ := Finset.mem_map.mp hmem
      exact hj z (m.view.emb.injective hz)
  iexact H

end Rules

end Cert.Conv

end
-- ==== Proof.Conv.Steps.lean ====
/- What each piece of the kernel's loop form (`Conv/Loop.lean`) does to the memrefs it reads and writes: the memrefs'
   contents after it, as functions of the contents before it. -/
module

public import proofs.«01_k».proof.Proof.Conv.Loop
public import proofs.«01_k».proof.Proof.Conv.Mem
public import proofs.«01_k».proof.Proof.Gen.KernelIdeal.Launch
public import Idealize.ShloMosaic.Lib.PointwiseCore

@[expose] public section

noncomputable section

namespace Cert.KernelIdeal.Conv

open Idealize.ShloMosaic Idealize.ShloMosaic.TcCoe Cert.KernelIdeal Cert.KernelIdeal.Gen Cert.Conv
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Assertions about the program's state. -/
abbrev SP (F : FTy → Type) := sProp (MT nD τ sig Unit (Elt F) ℕ (UR sig nD τ) ℕ)

/-- The weakest precondition of a piece of the kernel function. -/
abbrev WP (c : Dev nD) (E : Set ℕ) (k : P F) (K : PUnit → SP F) : SP F :=
  wp frame (wpE (defs₀ (F := F)) Variants.none (c : Thread nD τ) none) E k K

/-- The device's TensorCore owns a memref, at the contents `X`. -/
abbrev own (c : Dev nD) {sp : Space} {s : Shape} {e : EltTy} (m : Memref sig .tc sp s e) (X : s.Idx → Elt F e) : SP F :=
  owns (c : Thread nD τ) m fullShare X

/-! ### The places the kernel reads and writes -/

/-- The slab `s` of the carried buffer. -/
abbrev slabRect (s : Fin 7) : Rect S7x1512x128 := Rect.unit (s := S7x1512x128) ![s.val, 0, 0] S1x1512x128.size (inb_slab s)

/-- Element `z` of the line that starts at row `r` of slab `s`. -/
abbrev lineAt (s : Fin 7) (r : Nat) (hr : r < 1356) (z : S14x128.Idx) : S7x1512x128.Idx :=
  place (slabRect s) squeezes_S1x1512x128_S1512x128 ((Rect.mk (line r hr) spos_12_1).emb z)

/-- Element `z` of the first 1032 rows of slab `6`. -/
abbrev scratchAt (z : S1032x128.Idx) : S7x1512x128.Idx :=
  place (slabRect 6) squeezes_S1x1512x128_S1512x128
    ((Rect.unit (s := S1512x128) ![0, 0] S1032x128.size inb_S1512x128_S1032x128_0_0).emb z)

/-- Slab, row and lane of an element of a slab. -/
theorem slabAt_eq (s : Fin 7) (r : Fin 1512) (n : Fin 128) :
    place (slabRect s) squeezes_S1x1512x128_S1512x128 (ix2 r n) = ix3 s r n := by
  have e : Shape.reshapeEquiv squeezes_S1x1512x128_S1512x128.numel_eq (ix2 r n : S1512x128.Idx)
      = (ix3 (0 : Fin 1) r n : S1x1512x128.Idx) :=
    (Shape.reshapeEquiv_cons_one (d := ![1512, 128]) _ _).trans (by
      funext a
      revert a; intro (a : Fin 3); fin_cases a <;> rfl)
  unfold place
  rw [e]
  funext a; refine Fin.ext ?_
  rw [Rect.emb_apply]
  revert a; intro (a : Fin 3); fin_cases a
  · rfl
  · show 0 + 1 * r.val = r.val; omega
  · show 0 + 1 * n.val = n.val; omega

theorem scratchAt_injective : Function.Injective scratchAt := fun _ _ h =>
  (Rect.emb _).injective (place_injective _ _ h)

/-- Slab, row and lane of an element of a line. -/
theorem lineAt_eq (s : Fin 7) (r : Nat) (hr : r < 1356) (k : Fin 14) (n : Fin 128) :
    lineAt s r hr (ix2 k n) = ix3 s ⟨r + 12 * k.val, by have := k.2; omega⟩ n := by
  have e : (Rect.mk (line r hr) spos_12_1).emb (ix2 k n : S14x128.Idx)
      = (ix2 ⟨r + 12 * k.val, by have := k.2; omega⟩ n : S1512x128.Idx) := by
    funext a; refine Fin.ext ?_
    rw [Rect.emb_apply]
    revert a; intro (a : Fin 2); fin_cases a
    · rfl
    · show 0 + 1 * n.val = n.val; omega
  unfold lineAt
  rw [e]
  exact slabAt_eq s _ n

/-- Slab, row and lane of an element of the scratch slab. -/
theorem scratchAt_eq (k : Fin 1032) (n : Fin 128) :
    scratchAt (ix2 k n) = ix3 6 ⟨k.val, by have := k.2; omega⟩ n := by
  have e : (Rect.unit (s := S1512x128) ![0, 0] S1032x128.size inb_S1512x128_S1032x128_0_0).emb (ix2 k n : S1032x128.Idx)
      = (ix2 ⟨k.val, by have := k.2; omega⟩ n : S1512x128.Idx) := by
    funext a; refine Fin.ext ?_
    rw [Rect.emb_apply]
    revert a; intro (a : Fin 2); fin_cases a
    · show 0 + 1 * k.val = k.val; omega
    · show 0 + 1 * n.val = n.val; omega
  unfold scratchAt
  rw [e]
  exact slabAt_eq 6 _ n

/-! ### The contents after each piece -/

/-- The 14×24 scale words of the line `(b, h)`. -/
abbrev xsLine (x2 : Vec F S6x10x14x24 .i8) (b : Fin 6) (h : Fin 10) : Vec F S1x1x14x24 .i8 :=
  fun j => x2 ((Rect.unit (s := S6x10x14x24) ![b.val, h.val, 0, 0] S1x1x14x24.size (inb_xs b h)).toLoadRect.idx j)

/-- The 128 channels of slab `s` of the line `(b, h)`. -/
abbrev xLine (x1 : Vec F S6x10x14x768 .fp8e4m3) (b : Fin 6) (h : Fin 10) (s : Fin 6) : Vec F S1x1x14x128 .fp8e4m3 :=
  fun j => x1 ((Rect.unit (s := S6x10x14x768) ![b.val, h.val, 0, 128 * s.val] S1x1x14x128.size (inb_x b h s)).toLoadRect.idx j)

/-- The carried buffer after slab `s` of the line `(b, h)` is stored. -/
def fillOneX (x1 : Vec F S6x10x14x768 .fp8e4m3) (x2 : Vec F S6x10x14x24 .i8) (b : Fin 6) (h : Fin 10) (s : Fin 6)
    (X : Vec F S7x1512x128 .f32) : Vec F S7x1512x128 .f32 :=
  upd (lineAt s.castSucc (row b h) (row_lt b h)) X (scaled s (xsLine x2 b h) (xLine x1 b h s))

/-- The carried buffer after the line `(b, h)` is stored. -/
def fillLineX (x1 : Vec F S6x10x14x768 .fp8e4m3) (x2 : Vec F S6x10x14x24 .i8) (X : Vec F S7x1512x128 .f32) (p : Fin 6 × Fin 10) :
    Vec F S7x1512x128 .f32 :=
  fillOneX x1 x2 p.1 p.2 5 (fillOneX x1 x2 p.1 p.2 4 (fillOneX x1 x2 p.1 p.2 3 (fillOneX x1 x2 p.1 p.2 2
    (fillOneX x1 x2 p.1 p.2 1 (fillOneX x1 x2 p.1 p.2 0 X)))))

/-- The carried buffer after the first grid point has filled it. -/
def filled (x1 : Vec F S6x10x14x768 .fp8e4m3) (x2 : Vec F S6x10x14x24 .i8) : Vec F S7x1512x128 .f32 :=
  allLines.foldl (fillLineX x1 x2) k0_pay1

/-- The rows of slab `s` a tap reads. -/
abbrev tapRows (X : Vec F S7x1512x128 .f32) (s : Fin 6) (kh kw : Fin 3) : Vec F S1x1032x128 .f32 :=
  fun j => X ((tapRect s kh kw).toLoadRect.idx j)

/-- The accumulator after the tap `p`. -/
def tapA (x3 : Vec F S3x3x768x384 .fp8e4m3) (x4 : Vec F S3x3x24x384 .i8) (X : Vec F S7x1512x128 .f32)
    (A : Vec F S1032x384 .f32) (p : Fin 3 × Fin 3) : Vec F S1032x384 .f32 :=
  k0_pay664 (k0_pay663 (tapRows X 0 p.1 p.2) (tapRows X 1 p.1 p.2) (tapRows X 2 p.1 p.2) (tapRows X 3 p.1 p.2) (tapRows X 4 p.1 p.2)
      (tapRows X 5 p.1 p.2))
    (fun j => x4 ((Rect.unit (s := S3x3x24x384) ![p.1.val, p.2.val, 0, 0] S1x1x24x384.size (inb_ws p.1 p.2)).toLoadRect.idx j))
    (fun j => x3 ((Rect.unit (s := S3x3x768x384) ![p.1.val, p.2.val, 0, 0] S1x1x768x384.size (inb_w p.1 p.2)).toLoadRect.idx j)) A

/-- The accumulator after all taps, the carried buffer holding `X`. -/
def acc (x3 : Vec F S3x3x768x384 .fp8e4m3) (x4 : Vec F S3x3x24x384 .i8) (x5 : Vec F S1x384 .f32) (X : Vec F S7x1512x128 .f32) :
    Vec F S1032x384 .f32 :=
  allTaps.foldl (tapA x3 x4 X) (k0_pay662 x5)

/-- The place in the accumulator of element `z` of the output line `(b, h)` of the 128 columns `c`. -/
def accAt (b : Fin 6) (h : Fin 10) (c : Fin 3) (z : S14x128.Idx) : S1032x384.Idx :=
  ix2 ⟨orow b h + 12 * (z 0).val, by have := b.2; have := h.2; have : (z 0).val < 14 := (z 0).2; unfold orow; omega⟩
    ⟨128 * c.val + (z 1).val, by have := c.2; have : (z 1).val < 128 := (z 1).2; omega⟩

/-- The output block after the output line `p` is stored. -/
def outO (A : Vec F S1032x384 .f32) (O : Vec F S6x10x14x384 .bf16) (p : Fin 3 × Fin 6 × Fin 10) : Vec F S6x10x14x384 .bf16 :=
  upd (outRect p.2.1 p.2.2 p.1).emb O (k0_pay728 fun z => A (accAt p.2.1 p.2.2 p.1 z))

/-- The output block the accumulator `A` gives, over the block `O`. -/
def outOf (A : Vec F S1032x384 .f32) (O : Vec F S6x10x14x384 .bf16) : Vec F S6x10x14x384 .bf16 := allOut.foldl (outO A) O

/-- Two contents of the carried buffer agree on the six data slabs. -/
def Same (X X' : Vec F S7x1512x128 .f32) : Prop := ∀ j : S7x1512x128.Idx, (j 0).val < 6 → X j = X' j

theorem Same.rfl' (X : Vec F S7x1512x128 .f32) : Same X X := fun _ _ => rfl
theorem Same.trans {X Y Z : Vec F S7x1512x128 .f32} (a : Same X Y) (b : Same Y Z) : Same X Z :=
  fun j h => (a j h).trans (b j h)
theorem Same.symm {X Y : Vec F S7x1512x128 .f32} (a : Same X Y) : Same Y X := fun j h => (a j h).symm

/-- The accumulator depends on the data slabs alone. -/
theorem acc_congr (x3 : Vec F S3x3x768x384 .fp8e4m3) (x4 : Vec F S3x3x24x384 .i8) (x5 : Vec F S1x384 .f32)
    {X X' : Vec F S7x1512x128 .f32} (h : Same X X') : acc x3 x4 x5 X = acc x3 x4 x5 X' := by
  have hr : ∀ s kh kw, tapRows X s kh kw = tapRows X' s kh kw := fun s kh kw =>
    funext fun j => h _ (by
      have h0 : (j 0).val < 1 := (j 0).2
      show s.val + 1 * (j 0).val < 6
      have := s.2; omega)
  unfold acc
  congr 1
  funext A p
  unfold tapA
  simp only [hr]

section
variable (c : Dev nD) (E : Set ℕ) (K : PUnit → SP F)
variable (arg1 : Memref sig .tc .vmem S6x10x14x768 .fp8e4m3) (arg2 : Memref sig .tc .vmem S6x10x14x24 .i8)
  (arg3 : Memref sig .tc .vmem S3x3x768x384 .fp8e4m3) (arg4 : Memref sig .tc .vmem S3x3x24x384 .i8)
  (arg5 : Memref sig .tc .vmem S1x384 .f32) (arg6 : Memref sig .tc .vmem S6x10x14x384 .bf16) (harg6 : arg6.IsWhole)
  (arg7 : Memref sig .tc .vmem S7x1512x128 .f32) (arg8 : Memref sig .tc .vmem S1032x384 .f32)
  (x1 : Vec F S6x10x14x768 .fp8e4m3) (x2 : Vec F S6x10x14x24 .i8) (x3 : Vec F S3x3x768x384 .fp8e4m3)
  (x4 : Vec F S3x3x24x384 .i8) (x5 : Vec F S1x384 .f32) (O : Vec F S6x10x14x384 .bf16) (X : Vec F S7x1512x128 .f32)
  (A : Vec F S1032x384 .f32) (k : P F)

/-- The carried buffer is zero after it is set to zero. -/
theorem wp_zeroX :
    own c arg7 X ⊢ iprop((own c arg7 (k0_pay1 (F := F)) -∗ WP c E k K) -∗ WP c E (zeroX arg7 k) K) := by
  unfold zeroX
  iintro H Hk
  iapply (owns_load Variants.none (c : Thread nD τ) none E arg7 X) $$ H
  iintro H
  iapply (owns_store Variants.none (c : Thread nD τ) none E arg7 X) $$ H
  iintro H
  iapply Hk
  rw [upd_all]
  · iexact H
  · intro z; funext a; refine Fin.ext ?_
    rw [Rect.emb_apply]
    revert a; intro (a : Fin 3); fin_cases a <;> simp

/-- A line's slab is stored. -/
theorem wp_fillS (b : Fin 6) (h : Fin 10) (s : Fin 6) :
    iprop(own c arg1 x1 ∗ own c arg7 X)
      ⊢ iprop((iprop(own c arg1 x1 ∗ own c arg7 (fillOneX x1 x2 b h s X)) -∗ WP c E k K)
        -∗ WP c E (fillS arg1 arg7 b h s (xsLine x2 b h) k) K) := by
  unfold fillS
  iintro ⟨H1, H7⟩ Hk
  iapply (owns_load Variants.none (c : Thread nD τ) none E arg1 x1) $$ H1
  iintro H1
  iapply (owns_load_part Variants.none (c : Thread nD τ) none E arg7 X) $$ H7
  iintro H7
  iapply (owns_store_part Variants.none (c : Thread nD τ) none E arg7 X) $$ H7
  iintro H7
  iapply Hk
  isplitl [H1]; · iexact H1
  iexact H7

/-- A line's six slabs are stored. -/
theorem wp_fillLine (b : Fin 6) (h : Fin 10) :
    iprop(own c arg1 x1 ∗ own c arg2 x2 ∗ own c arg7 X)
      ⊢ iprop((iprop(own c arg1 x1 ∗ own c arg2 x2 ∗ own c arg7 (fillLineX x1 x2 X (b, h))) -∗ WP c E k K)
        -∗ WP c E (fillLine arg1 arg2 arg7 b h k) K) := by
  unfold fillLine
  iintro ⟨H1, H2, H7⟩ Hk
  iapply (owns_load Variants.none (c : Thread nD τ) none E arg2 x2) $$ H2
  iintro H2
  iapply (wp_fillS c E K arg1 arg7 x1 x2 _ _ b h 0) $$ [H1 H7]
  · isplitl [H1]; · iexact H1
    iexact H7
  iintro H
  iapply (wp_fillS c E K arg1 arg7 x1 x2 _ _ b h 1) $$ H
  iintro H
  iapply (wp_fillS c E K arg1 arg7 x1 x2 _ _ b h 2) $$ H
  iintro H
  iapply (wp_fillS c E K arg1 arg7 x1 x2 _ _ b h 3) $$ H
  iintro H
  iapply (wp_fillS c E K arg1 arg7 x1 x2 _ _ b h 4) $$ H
  iintro H
  iapply (wp_fillS c E K arg1 arg7 x1 x2 _ _ b h 5) $$ H
  iintro ⟨H1, H7⟩
  iapply Hk
  isplitl [H1]; · iexact H1
  isplitl [H2]; · iexact H2
  iexact H7

/-- The lines of a list are stored. -/
theorem wp_fillLines (l : List (Fin 6 × Fin 10)) :
    iprop(own c arg1 x1 ∗ own c arg2 x2 ∗ own c arg7 X)
      ⊢ iprop((iprop(own c arg1 x1 ∗ own c arg2 x2 ∗ own c arg7 (l.foldl (fillLineX x1 x2) X)) -∗ WP c E k K)
        -∗ WP c E (fillLines arg1 arg2 arg7 l k) K) := by
  induction l generalizing X with
  | nil =>
    iintro H Hk
    iapply Hk
    iexact H
  | cons p l ih =>
    iintro H Hk
    iapply (wp_fillLine c E K arg1 arg2 arg7 x1 x2 X (fillLines arg1 arg2 arg7 l k) p.1 p.2) $$ H
    iintro H
    iapply (ih (fillLineX x1 x2 X p)) $$ H
    iexact Hk

theorem emb_whole {s : Shape} (off : Fin s.rank → Nat) (inb : ∀ a, off a + s.size a ≤ s.size a) (z : s.Idx) :
    (Rect.unit (s := s) off s.size inb).emb z = z := by
  funext a; refine Fin.ext ?_
  rw [Rect.emb_apply]
  have := inb a
  show off a + 1 * (z a).val = (z a).val
  omega

theorem idx_whole {s : Shape} (off : Fin s.rank → Nat) (inb : ∀ a, off a + s.size a ≤ s.size a) (z : s.Idx) :
    (Rect.unit (s := s) off s.size inb).toLoadRect.idx z = z := emb_whole off inb z

/-- The accumulator holds the bias. -/
theorem wp_initAcc :
    iprop(own c arg5 x5 ∗ own c arg8 A)
      ⊢ iprop((iprop(own c arg5 x5 ∗ own c arg8 (k0_pay662 x5)) -∗ WP c E k K) -∗ WP c E (initAcc arg5 arg8 k) K) := by
  unfold initAcc
  iintro ⟨H5, H8⟩ Hk
  iapply (owns_load Variants.none (c : Thread nD τ) none E arg5 x5) $$ H5
  iintro H5
  iapply (owns_load Variants.none (c : Thread nD τ) none E arg8 A) $$ H8
  iintro H8
  iapply (owns_store Variants.none (c : Thread nD τ) none E arg8 A) $$ H8
  have e : (fun j => x5 ((Rect.unit (s := S1x384) ![0, 0] S1x384.size inb_S1x384_S1x384_0_0).toLoadRect.idx j)) = x5 :=
    funext fun z => congrArg x5 (idx_whole _ _ z)
  rw [upd_all (emb_whole _ _), e]
  iintro H8
  iapply Hk
  isplitl [H5]; · iexact H5
  iexact H8

/-- A tap is added to the accumulator. -/
theorem wp_tap (p : Fin 3 × Fin 3) :
    iprop(own c arg3 x3 ∗ own c arg4 x4 ∗ own c arg7 X ∗ own c arg8 A)
      ⊢ iprop((iprop(own c arg3 x3 ∗ own c arg4 x4 ∗ own c arg7 X ∗ own c arg8 (tapA x3 x4 X A p)) -∗ WP c E k K)
        -∗ WP c E (tap arg3 arg4 arg7 arg8 p.1 p.2 k) K) := by
  unfold tap
  iintro ⟨H3, H4, H7, H8⟩ Hk
  iapply (owns_load Variants.none (c : Thread nD τ) none E arg7 X) $$ H7
  iintro H7
  iapply (owns_load Variants.none (c : Thread nD τ) none E arg7 X) $$ H7
  iintro H7
  iapply (owns_load Variants.none (c : Thread nD τ) none E arg7 X) $$ H7
  iintro H7
  iapply (owns_load Variants.none (c : Thread nD τ) none E arg7 X) $$ H7
  iintro H7
  iapply (owns_load Variants.none (c : Thread nD τ) none E arg7 X) $$ H7
  iintro H7
  iapply (owns_load Variants.none (c : Thread nD τ) none E arg7 X) $$ H7
  iintro H7
  iapply (owns_load Variants.none (c : Thread nD τ) none E arg4 x4) $$ H4
  iintro H4
  iapply (owns_load Variants.none (c : Thread nD τ) none E arg3 x3) $$ H3
  iintro H3
  iapply (owns_load Variants.none (c : Thread nD τ) none E arg8 A) $$ H8
  iintro H8
  iapply (owns_load Variants.none (c : Thread nD τ) none E arg8 A) $$ H8
  iintro H8
  iapply (owns_store Variants.none (c : Thread nD τ) none E arg8 A) $$ H8
  rw [upd_all (emb_whole _ _)]
  simp only [idx_whole (s := S1032x384)]
  iintro H8
  iapply Hk
  isplitl [H3]; · iexact H3
  isplitl [H4]; · iexact H4
  isplitl [H7]; · iexact H7
  iexact H8

/-- The taps of a list are added to the accumulator. -/
theorem wp_taps (l : List (Fin 3 × Fin 3)) :
    iprop(own c arg3 x3 ∗ own c arg4 x4 ∗ own c arg7 X ∗ own c arg8 A)
      ⊢ iprop((iprop(own c arg3 x3 ∗ own c arg4 x4 ∗ own c arg7 X ∗ own c arg8 (l.foldl (tapA x3 x4 X) A)) -∗ WP c E k K)
        -∗ WP c E (taps arg3 arg4 arg7 arg8 l k) K) := by
  induction l generalizing A with
  | nil =>
    iintro H Hk
    iapply Hk
    iexact H
  | cons p l ih =>
    iintro H Hk
    iapply (wp_tap c E K arg3 arg4 arg7 arg8 x3 x4 X A (taps arg3 arg4 arg7 arg8 l k) p) $$ H
    iintro H
    iapply (ih (tapA x3 x4 X A p)) $$ H
    iexact Hk

/-- What the line's rows of the scratch slab read after the columns were copied there. -/
theorem scratch_read (b : Fin 6) (h : Fin 10) (cc : Fin 3) :
    (fun z => upd scratchAt X (k0_pay727 fun j => A ((Rect.unit (s := S1032x384) ![0, 128 * cc.val] S1032x128.size (inb_acc cc)).toLoadRect.idx j))
        (lineAt 6 (orow b h) (orow_lt b h) z)) = fun z => A (accAt b h cc z) := by
  funext z
  obtain ⟨k, n, rfl⟩ : ∃ (k : Fin 14) (n : Fin 128), z = ix2 k n := ⟨z 0, z 1, eq_ix2 z⟩
  have hk : orow b h + 12 * k.val < 1032 := by have := b.2; have := h.2; have := k.2; unfold orow; omega
  rw [lineAt_eq, show (ix3 6 ⟨orow b h + 12 * k.val, by omega⟩ n : S7x1512x128.Idx) = scratchAt (ix2 ⟨orow b h + 12 * k.val, hk⟩ n) from
    (scratchAt_eq ⟨orow b h + 12 * k.val, hk⟩ n).symm, upd_hit scratchAt_injective]
  unfold k0_pay727
  show A _ = A _
  congr 1
  rw [Shape.reshapeEquiv_self]
  funext a; refine Fin.ext ?_
  rw [LoadRect.idx_apply]
  revert a; intro (a : Fin 2); fin_cases a
  · show 0 + 1 * (orow b h + 12 * k.val) = orow b h + 12 * k.val; omega
  · show 128 * cc.val + 1 * n.val = 128 * cc.val + n.val; omega

/-- A copy into the scratch slab leaves the data slabs. -/
theorem same_scratch (w : Vec F S1032x128 .f32) : Same X (upd scratchAt X w) := fun j hj =>
  (upd_miss X w fun z hz => by
    obtain ⟨k, n, rfl⟩ : ∃ (k : Fin 1032) (n : Fin 128), z = ix2 k n := ⟨z 0, z 1, eq_ix2 z⟩
    rw [scratchAt_eq] at hz
    rw [← hz] at hj
    exact absurd hj (show ¬ (6 : Nat) < 6 by decide)).symm

/-- An output line is stored. -/
theorem wp_outLine (p : Fin 3 × Fin 6 × Fin 10) :
    iprop(own c arg6 O ∗ own c arg7 X ∗ own c arg8 A)
      ⊢ iprop((iprop(own c arg6 (outO A O p) ∗ (∃ X', ⌜Same X X'⌝ ∗ own c arg7 X') ∗ own c arg8 A) -∗ WP c E k K)
        -∗ WP c E (outLine arg6 harg6 arg7 arg8 p.2.1 p.2.2 p.1 k) K) := by
  unfold outLine
  iintro ⟨H6, H7, H8⟩ Hk
  iapply (owns_load Variants.none (c : Thread nD τ) none E arg8 A) $$ H8
  iintro H8
  iapply (owns_load_part Variants.none (c : Thread nD τ) none E arg7 X) $$ H7
  iintro H7
  iapply (owns_store_part Variants.none (c : Thread nD τ) none E arg7 X) $$ H7
  iintro H7
  iapply (owns_load_part Variants.none (c : Thread nD τ) none E arg7 _) $$ H7
  iintro H7
  iapply (owns_load Variants.none (c : Thread nD τ) none E arg6 O) $$ H6
  iintro H6
  iapply (owns_store Variants.none (c : Thread nD τ) none E arg6 O) $$ H6
  iintro H6
  iapply Hk
  isplitl [H6]
  · unfold outO
    rw [← scratch_read X A p.2.1 p.2.2 p.1]
    iexact H6
  isplitl [H7]
  · iexists _
    isplitr; swap; · iexact H7
    ipureintro; exact same_scratch X _
  iexact H8

/-- The output lines of a list are stored. -/
theorem wp_outLines (l : List (Fin 3 × Fin 6 × Fin 10)) :
    iprop(own c arg6 O ∗ own c arg7 X ∗ own c arg8 A)
      ⊢ iprop((iprop(own c arg6 (l.foldl (outO A) O) ∗ (∃ X', ⌜Same X X'⌝ ∗ own c arg7 X') ∗ own c arg8 A) -∗ WP c E k K)
        -∗ WP c E (outLines arg6 harg6 arg7 arg8 l k) K) := by
  induction l generalizing O X with
  | nil =>
    iintro ⟨H6, H7, H8⟩ Hk
    iapply Hk
    isplitl [H6]; · iexact H6
    isplitl [H7]
    · iexists X
      isplitr; · ipureintro; exact Same.rfl' X
      iexact H7
    iexact H8
  | cons p l ih =>
    iintro H Hk
    iapply (wp_outLine c E K arg6 harg6 arg7 arg8 O X A (outLines arg6 harg6 arg7 arg8 l k) p) $$ H
    iintro ⟨H6, ⟨%X', %hX', H7⟩, H8⟩
    iapply (ih (outO A O p) X') $$ [H6 H7 H8]
    · isplitl [H6]; · iexact H6
      isplitl [H7]; · iexact H7
      iexact H8
    iintro ⟨H6, ⟨%X'', %hX'', H7⟩, H8⟩
    iapply Hk
    isplitl [H6]; · iexact H6
    isplitl [H7]
    · iexists X''
      isplitr; · ipureintro; exact hX'.trans hX''
      iexact H7
    iexact H8

end

end Cert.KernelIdeal.Conv

end
-- ==== Proof.Conv.Body.lean ====
/- The kernel function at one grid point: what it leaves in the output block, in the carried buffer and in the
   accumulator. -/
module

public import proofs.«01_k».proof.Proof.Conv.Steps

@[expose] public section

noncomputable section

namespace Cert.KernelIdeal.Conv

open Idealize.ShloMosaic Idealize.ShloMosaic.TcCoe Cert.KernelIdeal Cert.KernelIdeal.Gen Cert.Conv
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Updates in a row, seen at one place: each either puts `v` there (`hit`) or leaves it. -/
theorem foldl_at {ι κ α : Type} (f : (κ → α) → ι → κ → α) (hit : ι → Prop) (j : κ) (v : α)
    (h1 : ∀ X p, hit p → f X p j = v) (h0 : ∀ X p, ¬ hit p → f X p j = X j) (l : List ι) (X : κ → α) :
    ((∃ p ∈ l, hit p) → l.foldl f X j = v) ∧ ((∀ p ∈ l, ¬ hit p) → l.foldl f X j = X j) := by
  induction l generalizing X with
  | nil => exact ⟨fun ⟨p, hp, _⟩ => absurd hp (by simp), fun _ => rfl⟩
  | cons q l ih =>
    refine ⟨fun ⟨p, hp, hh⟩ => ?_, fun hn => ?_⟩
    · by_cases hl : ∃ p ∈ l, hit p
      · exact (ih _).1 hl
      · have hl' : ∀ p ∈ l, ¬ hit p := fun p hp hh => hl ⟨p, hp, hh⟩
        have hq : hit q := by
          rcases List.mem_cons.mp hp with rfl | hp
          · exact hh
          · exact absurd hh (hl' p hp)
        exact ((ih _).2 hl').trans (h1 X q hq)
    · exact ((ih _).2 fun p hp => hn p (List.mem_cons_of_mem _ hp)).trans (h0 X q (hn q List.mem_cons_self))

theorem mem_allLines (b : Fin 6) (h : Fin 10) : (b, h) ∈ allLines := by revert b h; decide
theorem mem_allOut (c : Fin 3) (b : Fin 6) (h : Fin 10) : (c, b, h) ∈ allOut := by revert c b h; decide

/-- The output block an accumulator gives: each line's rows of it, rounded. -/
def outBlk (A : Vec F S1032x384 .f32) : Vec F S6x10x14x384 .bf16 := fun j =>
  FloatOps.truncf .bf16 bitsLt_bf16_f32 (A (ix2 ⟨orow (j 0) (j 1) + 12 * (j 2).val, by
    have : (j 0).val < 6 := (j 0).2; have : (j 1).val < 10 := (j 1).2; have : (j 2).val < 14 := (j 2).2
    unfold orow; omega⟩ (j 3)))

theorem outRect_emb (b : Fin 6) (h : Fin 10) (c : Fin 3) (k : Fin 14) (n : Fin 128) :
    (outRect b h c).emb (ix4 0 0 k n : S1x1x14x128.Idx)
      = (ix4 b h k ⟨128 * c.val + n.val, by have := c.2; have := n.2; omega⟩ : S6x10x14x384.Idx) := by
  funext a; refine Fin.ext ?_
  rw [Rect.emb_apply]
  revert a; intro (a : Fin 4); fin_cases a
  · show b.val + 1 * 0 = b.val; omega
  · show h.val + 1 * 0 = h.val; omega
  · show 0 + 1 * k.val = k.val; omega
  · show 128 * c.val + 1 * n.val = 128 * c.val + n.val; omega

/-- The stored output lines make up the whole block, whatever the block held before. -/
theorem outOf_eq (A : Vec F S1032x384 .f32) (O : Vec F S6x10x14x384 .bf16) : outOf A O = outBlk A := by
  funext j
  obtain ⟨b, h, k, n, rfl⟩ : ∃ (b : Fin 6) (h : Fin 10) (k : Fin 14) (n : Fin 384), j = ix4 b h k n :=
    ⟨j 0, j 1, j 2, j 3, eq_ix4 j⟩
  refine (foldl_at (outO A) (fun p => p = (⟨n.val / 128, by have := n.2; omega⟩, b, h)) (ix4 b h k n) _ ?_ ?_ allOut O).1
    ⟨_, mem_allOut _ _ _, rfl⟩
  · rintro X _ rfl
    unfold outO
    have e : (ix4 b h k n : S6x10x14x384.Idx)
        = (outRect b h ⟨n.val / 128, by have := n.2; omega⟩).emb (ix4 0 0 k ⟨n.val % 128, Nat.mod_lt _ (by decide)⟩ : S1x1x14x128.Idx) := by
      rw [outRect_emb]
      congr 1
      refine Fin.ext ?_
      show n.val = 128 * (n.val / 128) + n.val % 128
      omega
    rw [e, upd_hit (Rect.emb _).injective, ← e]
    pointwise [k0_pay728, outBlk, accAt]
    congr 3
    refine Fin.ext ?_
    show 128 * (n.val / 128) + n.val % 128 = n.val
    omega
  · intro X p hp
    unfold outO
    refine upd_miss _ _ fun z hz => hp ?_
    obtain ⟨z0, z1, z2, z3, rfl⟩ : ∃ (b : Fin 1) (h : Fin 1) (k : Fin 14) (n : Fin 128), z = ix4 b h k n :=
      ⟨z 0, z 1, z 2, z 3, eq_ix4 z⟩
    obtain rfl : z0 = 0 := Subsingleton.elim _ _
    obtain rfl : z1 = 0 := Subsingleton.elim _ _
    rw [outRect_emb, ix4_inj] at hz
    obtain ⟨h0, h1, h2, h3⟩ := hz
    obtain ⟨c, b', h'⟩ := p
    have := z3.2
    refine Prod.ext (Fin.ext ?_) (Prod.ext h0 h1)
    show c.val = n.val / 128
    rw [← h3]; show c.val = (128 * c.val + z3.val) / 128; omega

section
variable (c : Dev nD) (E : Set ℕ) (K : PUnit → SP F)
variable (i : grid0.Coords) (arg1 : Memref sig .tc .vmem S6x10x14x768 .fp8e4m3) (harg1 : arg1.IsWhole) (arg2 : Memref sig .tc .vmem S6x10x14x24 .i8) (harg2 : arg2.IsWhole) (arg3 : Memref sig .tc .vmem S3x3x768x384 .fp8e4m3) (harg3 : arg3.IsWhole) (arg4 : Memref sig .tc .vmem S3x3x24x384 .i8) (harg4 : arg4.IsWhole) (arg5 : Memref sig .tc .vmem S1x384 .f32) (harg5 : arg5.IsWhole) (arg6 : Memref sig .tc .vmem S6x10x14x384 .bf16) (harg6 : arg6.IsWhole) (arg7 : Memref sig .tc .vmem S7x1512x128 .f32) (harg7 : arg7.IsWhole) (arg8 : Memref sig .tc .vmem S1032x384 .f32) (harg8 : arg8.IsWhole)
  (x1 : Vec F S6x10x14x768 .fp8e4m3) (x2 : Vec F S6x10x14x24 .i8) (x3 : Vec F S3x3x768x384 .fp8e4m3)
  (x4 : Vec F S3x3x24x384 .i8) (x5 : Vec F S1x384 .f32) (O : Vec F S6x10x14x384 .bf16) (X : Vec F S7x1512x128 .f32)
  (A : Vec F S1032x384 .f32)

/-- Bias, taps and output, from the data slabs of `X`. -/
theorem wp_main :
    iprop(own c arg3 x3 ∗ own c arg4 x4 ∗ own c arg5 x5 ∗ own c arg6 O ∗ own c arg7 X ∗ own c arg8 A)
      ⊢ iprop((iprop(own c arg3 x3 ∗ own c arg4 x4 ∗ own c arg5 x5 ∗ own c arg6 (outBlk (acc x3 x4 x5 X))
            ∗ (∃ X', ⌜Same X X'⌝ ∗ own c arg7 X') ∗ own c arg8 (acc x3 x4 x5 X)) -∗ K ⟨⟩)
        -∗ WP c E (main arg3 arg4 arg5 arg6 harg6 arg7 arg8) K) := by
  unfold main
  iintro ⟨H3, H4, H5, H6, H7, H8⟩ Hk
  iapply (wp_initAcc c E K arg5 arg8 x5 A _) $$ [H5 H8]
  · isplitl [H5]; · iexact H5
    iexact H8
  iintro ⟨H5, H8⟩
  iapply (wp_taps c E K arg3 arg4 arg7 arg8 x3 x4 X _ _ allTaps) $$ [H3 H4 H7 H8]
  · isplitl [H3]; · iexact H3
    isplitl [H4]; · iexact H4
    isplitl [H7]; · iexact H7
    iexact H8
  iintro ⟨H3, H4, H7, H8⟩
  iapply (wp_outLines c E K arg6 harg6 arg7 arg8 O X (acc x3 x4 x5 X) _ allOut) $$ [H6 H7 H8]
  · isplitl [H6]; · iexact H6
    isplitl [H7]; · iexact H7
    iexact H8
  iintro ⟨H6, H7, H8⟩
  iapply (le_wp_ret frame (wpE (defs₀ (F := F)) Variants.none (c : Thread nD τ) none) E (⟨⟩ : PUnit) K)
  iapply Hk
  isplitl [H3]; · iexact H3
  isplitl [H4]; · iexact H4
  isplitl [H5]; · iexact H5
  isplitl [H6]
  · rw [← outOf_eq _ O]
    iexact H6
  isplitl [H7]; · iexact H7
  iexact H8

/-- The kernel function at the first grid point, the carried buffer holding anything. -/
theorem wp_body_first (h : first i) :
    iprop(own c arg1 x1 ∗ own c arg2 x2 ∗ own c arg3 x3 ∗ own c arg4 x4 ∗ own c arg5 x5 ∗ own c arg6 O ∗ own c arg7 X ∗ own c arg8 A)
      ⊢ iprop((iprop(own c arg1 x1 ∗ own c arg2 x2 ∗ own c arg3 x3 ∗ own c arg4 x4 ∗ own c arg5 x5
            ∗ own c arg6 (outBlk (acc x3 x4 x5 (filled x1 x2)))
            ∗ (∃ X', ⌜Same (filled x1 x2) X'⌝ ∗ own c arg7 X') ∗ (∃ A', own c arg8 A')) -∗ K ⟨⟩)
        -∗ WP c E (cc0_mxfp8_dilated_conv i arg1 harg1 arg2 harg2 arg3 harg3 arg4 harg4 arg5 harg5 arg6 harg6 arg7 harg7 arg8 harg8) K) := by
  rw [printed_first i arg1 harg1 arg2 harg2 arg3 harg3 arg4 harg4 arg5 harg5 arg6 harg6 arg7 harg7 arg8 harg8 h]
  iintro ⟨H1, H2, H3, H4, H5, H6, H7, H8⟩ Hk
  iapply (wp_zeroX c E K arg7 X _) $$ H7
  iintro H7
  iapply (wp_fillLines c E K arg1 arg2 arg7 x1 x2 _ _ allLines) $$ [H1 H2 H7]
  · isplitl [H1]; · iexact H1
    isplitl [H2]; · iexact H2
    iexact H7
  iintro ⟨H1, H2, H7⟩
  iapply (wp_main c E K arg3 arg4 arg5 arg6 harg6 arg7 arg8 x3 x4 x5 O (filled x1 x2) A) $$ [H3 H4 H5 H6 H7 H8]
  · isplitl [H3]; · iexact H3
    isplitl [H4]; · iexact H4
    isplitl [H5]; · iexact H5
    isplitl [H6]; · iexact H6
    isplitl [H7]; · iexact H7
    iexact H8
  iintro ⟨H3, H4, H5, H6, H7, H8⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-- The kernel function at a later grid point, the carried buffer's data slabs as the first point left them. -/
theorem wp_body_other (h : ¬ first i) (hX : Same (filled x1 x2) X) :
    iprop(own c arg1 x1 ∗ own c arg2 x2 ∗ own c arg3 x3 ∗ own c arg4 x4 ∗ own c arg5 x5 ∗ own c arg6 O ∗ own c arg7 X ∗ own c arg8 A)
      ⊢ iprop((iprop(own c arg1 x1 ∗ own c arg2 x2 ∗ own c arg3 x3 ∗ own c arg4 x4 ∗ own c arg5 x5
            ∗ own c arg6 (outBlk (acc x3 x4 x5 (filled x1 x2)))
            ∗ (∃ X', ⌜Same (filled x1 x2) X'⌝ ∗ own c arg7 X') ∗ (∃ A', own c arg8 A')) -∗ K ⟨⟩)
        -∗ WP c E (cc0_mxfp8_dilated_conv i arg1 harg1 arg2 harg2 arg3 harg3 arg4 harg4 arg5 harg5 arg6 harg6 arg7 harg7 arg8 harg8) K) := by
  rw [printed_other i arg1 harg1 arg2 harg2 arg3 harg3 arg4 harg4 arg5 harg5 arg6 harg6 arg7 harg7 arg8 harg8 h]
  iintro ⟨H1, H2, H3, H4, H5, H6, H7, H8⟩ Hk
  iapply (wp_main c E K arg3 arg4 arg5 arg6 harg6 arg7 arg8 x3 x4 x5 O X A) $$ [H3 H4 H5 H6 H7 H8]
  · isplitl [H3]; · iexact H3
    isplitl [H4]; · iexact H4
    isplitl [H5]; · iexact H5
    isplitl [H6]; · iexact H6
    isplitl [H7]; · iexact H7
    iexact H8
  iintro ⟨H3, H4, H5, H6, ⟨%X', %hX', H7⟩, H8⟩
  iapply Hk
  isplitl [H1]; · iexact H1
  isplitl [H2]; · iexact H2
  isplitl [H3]; · iexact H3
  isplitl [H4]; · iexact H4
  isplitl [H5]; · iexact H5
  isplitl [H6]
  · rw [acc_congr x3 x4 x5 hX]
    iexact H6
  isplitl [H7]
  · iexists X'
    isplitr; · ipureintro; exact hX.trans hX'
    iexact H7
  iexists _; iexact H8

end

end Cert.KernelIdeal.Conv

end
-- ==== Proof.Conv.Frame.lean ====
/- The whole launch: every fair execution ends, and leaves in the result the blocks the kernel function computes. -/
module

public import proofs.«01_k».proof.Proof.Conv.Body
public import proofs.«01_k».proof.Proof.Gen.KernelIdeal.Frame
public import Idealize.ShloMosaic.Lib.Claim

@[expose] public section

set_option maxRecDepth 16384

noncomputable section

namespace Cert.KernelIdeal.Conv

open Idealize.ShloMosaic Idealize.ShloMosaic.TcCoe Idealize.ShloMosaic.Tactic
open Cert.KernelIdeal Cert.KernelIdeal.Gen Cert.Conv
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The kernel's first branch is taken at the first grid point and at no other. -/
theorem first_iff : ∀ t : Fin cfg0.N, first (grid0.coords t) ↔ t.val % 3 = 0 :=
  (fun t => by
    have ht : t.val < 3 := Nat.lt_of_lt_of_eq t.isLt N_0
    have e0 : (grid0.coords t 0).val = t.val / 1 % 3 := Pipeline.Grid.coords_val t 0 (by decide) rfl
    simp only [first, e0]
    word_cmp
   : ∀ t : Fin grid0.N, first (grid0.coords t) ↔ t.val % 3 = 0)

/-- The kernel's two scratch buffers: the carried one and the accumulator. -/
abbrev scM0 := Memref.whole cc0_scratch0
abbrev scM1 := Memref.whole cc0_scratch1

/-- What the launch hands the pipeline: the two scratch buffers and the generator register, holding anything. -/
theorem PhiA_eq (c : Dev nD) :
    (Pipeline.ΦA spec0 c : SP F)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The first grid point. -/
abbrev t0 : Fin cfg0.N := ⟨0, by rw [show cfg0.N = 3 from N_0]; decide⟩

/-- The carried buffer's contents after the first point, up to its last slab. -/
def carried (c : Dev nD) : Vec F S7x1512x128 .f32 := filled (iblk m c 0 t0) (iblk m c 1 t0)

/-- The images' and the images' scales' blocks are the same at every grid point. -/
theorem carried_eq (c : Dev nD) (t : Fin cfg0.N) : carried m c = filled (iblk m c 0 t) (iblk m c 1 t) := rfl

/-- Between grid points: before the first everything is unknown, afterwards the carried buffer's data slabs are known. -/
def PhiS (c : Dev nD) : (n : ℕ) → n ≤ cfg0.N → SP F
  | 0, _ => Pipeline.ΦA spec0 c
  | _ + 1, _ => iprop(iprop((∃ X', ⌜Same (carried m c) X'⌝ ∗ owns (c : Thread nD τ) scM0 fullShare X')
      ∗ (∃ d, owns (c : Thread nD τ) scM1 fullShare d)) ∗ (∃ r, prngReg c r))

theorem PhiS_zero (c : Dev nD) (n : ℕ) (hn : n ≤ cfg0.N) (h : n = 0) : PhiS m c n hn = Pipeline.ΦA spec0 c := by
  subst h; rfl
theorem PhiS_pos (c : Dev nD) (n : ℕ) (hn : n ≤ cfg0.N) (h : n ≠ 0) : PhiS m c n hn
    = iprop(iprop((∃ X', ⌜Same (carried m c) X'⌝ ∗ owns (c : Thread nD τ) scM0 fullShare X')
      ∗ (∃ d, owns (c : Thread nD τ) scM1 fullShare d)) ∗ (∃ r, prngReg c r)) := by
  cases n with
  | zero => exact absurd rfl h
  | succ n => rfl

/-- The block the kernel function leaves in the result at grid point `t`. -/
def blockAt (c : Dev nD) (t : Fin cfg0.N) : Vec F S6x10x14x384 .bf16 :=
  outBlk (acc (iblk m c 2 t) (iblk m c 3 t) (iblk m c 4 t) (carried m c))

/-- What each window's buffer holds after the body, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blockAt m c t := by dsimp only [dats]

/-- Each input's current buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, -/
def bodyPre (c : Dev nD) (t : Fin cfg0.N) : SP F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : SP F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, by the kernel function's run in its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = PhiS m c (t.val + 1) t.isLt from rfl, PhiS_pos m c _ _ (Nat.succ_ne_zero _)]
  have hN : t.val < 3 := lt_of_lt_of_eq t.isLt (show cfg0.N = 3 from N_0)
  unfold blockAt
  rw [carried_eq m c t, PhiS_castSucc m c t]
  by_cases hz : t.val = 0
  · rw [PhiS_zero m c _ _ hz, PhiA_eq]
    iintro ⟨⟨⟨⟨%X, HX⟩, ⟨%A, HA⟩⟩, Hg⟩, Ho, ⟨%d0, H0⟩, ⟨%d1, H1⟩, ⟨%d2, H2⟩, ⟨%d3, H3⟩, ⟨%d4, H4⟩, ⟨%d5, H5⟩⟩
    iapply (wp_body_first c Set.univ _ (grid0.coords t) _ _ _ _ _ _ _ _ _ _ _ _ _ _ _ _ (iblk m c 0 t) (iblk m c 1 t)
      (iblk m c 2 t) (iblk m c 3 t) (iblk m c 4 t) _ _ _ ((first_iff t).mpr (by rw [hz]))) $$ [H0 H1 H2 H3 H4 H5 HX HA]
    · isplitl [H0]; · iexact H0
      isplitl [H1]; · iexact H1
      isplitl [H2]; · iexact H2
      isplitl [H3]; · iexact H3
      isplitl [H4]; · iexact H4
      isplitl [H5]; · iexact H5
      isplitl [HX]; · iexact HX
      iexact HA
    iintro ⟨H0, H1, H2, H3, H4, H5, HX, HA⟩
    isplitl [HX HA Hg]
    · isplitl [HX HA]
      · isplitl [HX]; · iexact HX
        iexact HA
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m c _ _ hz, carried_eq m c t]
    iintro ⟨⟨⟨⟨%X, %hX, HX⟩, ⟨%A, HA⟩⟩, Hg⟩, Ho, ⟨%d0, H0⟩, ⟨%d1, H1⟩, ⟨%d2, H2⟩, ⟨%d3, H3⟩, ⟨%d4, H4⟩, ⟨%d5, H5⟩⟩
    iapply (wp_body_other c Set.univ _ (grid0.coords t) _ _ _ _ _ _ _ _ _ _ _ _ _ _ _ _ (iblk m c 0 t) (iblk m c 1 t)
      (iblk m c 2 t) (iblk m c 3 t) (iblk m c 4 t) _ _ _ (fun h => by have := (first_iff t).mp h; omega) hX) $$ [H0 H1 H2 H3 H4 H5 HX HA]
    · isplitl [H0]; · iexact H0
      isplitl [H1]; · iexact H1
      isplitl [H2]; · iexact H2
      isplitl [H3]; · iexact H3
      isplitl [H4]; · iexact H4
      isplitl [H5]; · iexact H5
      isplitl [HX]; · iexact HX
      iexact HA
    iintro ⟨H0, H1, H2, H3, H4, H5, HX, HA⟩
    isplitl [HX HA Hg]
    · isplitl [HX HA]
      · isplitl [HX]; · iexact HX
        iexact HA
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the kernel function on the current buffers. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the pipeline is what is kept before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch buffers are given back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 3 := N_0; omega), PhiA_eq]
  iintro ⟨⟨⟨%X, -, HX⟩, HA⟩, Hg⟩
  isplitl [HX HA]
  · isplitl [HX]; · iexists _; iexact HX
    iexact HA
  iexact Hg

set_option backward.isDefEq.respectTransparency.types false in
set_option maxHeartbeats 800000 in
/-- Every weakly fair execution ends, with every array as the windows' contents give it and every counter at zero. -/
theorem run_main_quiescent : θ_run defs (onTc (τ := τ) (Cert.KernelIdeal.main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ Cert.KernelIdeal.main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (Cert.KernelIdeal.main (F := F))) (s₀ m ρ) (Pipeline.FramePost cfgs (dats m) 0 (V m)) :=
  (θ_run defs _ _).mono (fun _ h => h.1) (run_main_quiescent m ρ)

/-- Every weakly fair execution ends with the arguments unchanged and every counter at zero. -/
theorem frame : θ_run defs (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Conv

end
-- ==== Proof.Conv.Twin.lean ====
/- The kernel as compiled is, operation for operation, the kernel read at the ideal numbers: what is proved of the one
   for any numbers holds of the other. -/
module

public import proofs.«01_k».proof.Proof.Conv.Frame
public import proofs.«01_k».proof.Proof.Gen.Kernel

@[expose] public section

set_option maxRecDepth 1000000

noncomputable section

namespace Cert.Kernel.Conv

open Idealize.ShloMosaic Idealize.ShloMosaic.TcCoe Idealize.SL.Sem Cert.Kernel

variable {F : FTy → Type} [FloatOps F]

/-- The kernel functions of the two printed programs are the same. -/
theorem body_eq : Cert.Kernel.cc0_mxfp8_dilated_conv (F := F) = Cert.KernelIdeal.cc0_mxfp8_dilated_conv (F := F) := rfl

/-- So are the tables the pipeline calls them through, -/
theorem defs₀_eq : Cert.Kernel.defs₀ (F := F) = Cert.KernelIdeal.defs₀ (F := F) := by
  unfold Cert.Kernel.defs₀ Cert.KernelIdeal.defs₀
  refine congrArg _ (funext fun l => ?_)
  fin_cases l
  rfl

/-- with the pipeline's own loops, -/
theorem defs_eq : Cert.Kernel.defs (F := F) = Cert.KernelIdeal.defs (F := F) :=
  congrArg (Pipeline.defs Cert.KernelIdeal.pcfgs) defs₀_eq

/-- and the host programs. -/
theorem main_eq : Cert.Kernel.main (F := F) = Cert.KernelIdeal.main (F := F) := rfl

/-- Every weakly fair execution of the compiled kernel ends with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := Cert.KernelIdeal.Conv.frame m ρ
  rw [← defs_eq] at h
  exact h

end Cert.Kernel.Conv

end
-- ==== Proof.Conv.Scale.lean ====
/- A scale byte as a power of two, read in the two ways the programs read it. -/
module

public import Idealize.ShloMosaic.Lib.Pointwise

@[expose] public section

noncomputable section

namespace Cert.Conv

open Idealize.ShloMosaic

/-- The scale as the kernel reads it: the byte moved into the exponent field of a 32-bit float. -/
def bitScale (b : BitVec 8) : EReal := Ideal.ofBits .f32 (IntOp.shli .vector (b.setWidth 32) 23#32)

/-- The scale as the reference reads it: two to the byte less 127. -/
def powScale (b : BitVec 8) : EReal := Ideal.exp2 ((((b.setWidth 32) - 127#32 : BitVec 32).toInt : ℝ) : EReal)

/-- The fields of the kernel's word: sign zero, the byte as exponent, fraction zero. -/
theorem fields : ∀ b : BitVec 8,
    ((IntOp.shli .vector (b.setWidth 32) 23#32 : BitVec 32).extractLsb' 31 1 == 1#1) = false
    ∧ ((IntOp.shli .vector (b.setWidth 32) 23#32 : BitVec 32).extractLsb' 23 8).toNat = b.toNat
    ∧ ((IntOp.shli .vector (b.setWidth 32) 23#32 : BitVec 32).extractLsb' 0 23).toNat = 0
    ∧ ((b.setWidth 32) - 127#32 : BitVec 32).toInt = (b.toNat : ℤ) - 127 := by
  decide +kernel

/-- A normal float's pattern with sign zero and fraction zero is a power of two. -/
theorem ieee_pow (v : BitVec 32) (n : ℕ) (h1 : (v.extractLsb' 31 1 == 1#1) = false) (h2 : (v.extractLsb' 23 8).toNat = n)
    (h3 : (v.extractLsb' 0 23).toNat = 0) (n0 : n ≠ 0) (n1 : n ≠ 255) :
    Ideal.ieee 8 23 v = ((Real.rpow 2 (((n : ℤ) - 127 : ℤ) : ℝ) : ℝ) : EReal) := by
  unfold Ideal.ieee
  simp only [show 8 + 23 = 31 from rfl, h1, h2, h3]
  rw [if_neg (by simpa using n1), if_neg n0]
  congr 1
  rw [Real.rpow_eq_pow, Real.rpow_intCast,
    show ((n : ℤ) - (2 ^ (8 - 1) - 1) - (23 : ℕ)) = ((n : ℤ) - 127) + (-23) by norm_num; ring, zpow_add₀ (by norm_num)]
  norm_num
  ring

/-- The two readings of a scale byte other than 0 and 255 are one number. -/
theorem bitScale_eq (b : BitVec 8) (h0 : b ≠ 0#8) (h1 : b ≠ 255#8) : bitScale b = powScale b := by
  obtain ⟨f1, f2, f3, f4⟩ := fields b
  have n0 : b.toNat ≠ 0 := fun h => h0 (BitVec.eq_of_toNat_eq h)
  have n1 : b.toNat ≠ 255 := fun h => h1 (BitVec.eq_of_toNat_eq h)
  unfold bitScale powScale
  rw [f4, Ideal.exp2_coe]
  exact ieee_pow _ b.toNat f1 f2 f3 n0 n1

end Cert.Conv

end
-- ==== Proof.Conv.Image.lean ====
/- What the carried buffer holds: the scaled images, on rows laid out so that every tap is a shift, zero elsewhere. -/
module

public import proofs.«01_k».proof.Proof.Conv.Body
public import proofs.«01_k».proof.Proof.Conv.Scale

@[expose] public section

set_option maxRecDepth 16384

noncomputable section

namespace Cert.KernelIdeal.Conv

open Idealize.ShloMosaic Idealize.ShloMosaic.TcCoe Cert.KernelIdeal Cert.KernelIdeal.Gen Cert.Conv

/-- The channel `128 * s + n`. -/
abbrev chan (s : Fin 6) (n : Fin 128) : Fin 768 := ⟨128 * s.val + n.val, by omega⟩

/-- The kernel's lane numbers: lane `n` belongs to the block `n / 32` of its slab. -/
theorem lane_block (k : Fin 14) (n : Fin 128) : k0_pay2 (ix2 k n) = BitVec.ofNat 32 (n.val / 32) := by
  pointwise [k0_pay2]
  revert n
  decide +kernel

/-- The lane the gather reads, given the lane's block `q` in its slab and the slab's first block `c`. -/
def lane (q c : BitVec 32) : ℕ :=
  (Scalar.select (IntOp.cmpi CmpIPredicate.slt (IntOp.addi q c) 0#32) (IntOp.addi (IntOp.addi q c) 128#32)
    (IntOp.addi q c)).toNat % 128

/-- It is the block's number among all 24. -/
theorem lane_eq : ∀ (s : Fin 6) (n : Fin 128),
    lane (BitVec.ofNat 32 (n.val / 32)) (BitVec.ofNat 32 (4 * s.val)) = 4 * s.val + n.val / 32 := by
  decide +kernel

/-- One stored line of one slab: each code times its block's scale. -/
theorem scaled_at (s : Fin 6) (xs : Vec Ideal S1x1x14x24 .i8) (x : Vec Ideal S1x1x14x128 .fp8e4m3) (k : Fin 14) (n : Fin 128) :
    scaled s xs x (ix2 k n) = x (ix4 0 0 k n) * bitScale (xs (ix4 0 0 k ⟨4 * s.val + n.val / 32, by omega⟩)) := by
  unfold scaled
  pointwise [k0_pay8]
  refine congrArg (x (ix4 0 0 k n) * ·) ((congrArg (fun q : Fin 128 => k0_pay3 xs (ix2 k q))
    (Fin.ext ?_ : _ = (⟨4 * s.val + n.val / 32, by omega⟩ : Fin 128))).trans ?_)
  · exact (congrArg (fun q => lane q (BitVec.ofNat 32 (4 * s.val))) (lane_block k n)).trans (lane_eq s n)
  · pointwise [k0_pay3]
    rw [dif_pos (show 4 * s.val + n.val / 32 < 24 by omega)]
    rfl

/-- The scaled image: a code times its block's scale, the scale being `sc` of its byte. -/
def image (sc : BitVec 8 → EReal) (x1 : Vec Ideal S6x10x14x768 .fp8e4m3) (x2 : Vec Ideal S6x10x14x24 .i8) (b : Fin 6) (h : Fin 10) (w : Fin 14)
    (ch : Fin 768) : EReal :=
  x1 (ix4 b h w ch) * sc (x2 (ix4 b h w ⟨ch.val / 32, by omega⟩))

/-- The same for the line as the loads cut it out of the images. -/
theorem scaled_line (x1 : Vec Ideal S6x10x14x768 .fp8e4m3) (x2 : Vec Ideal S6x10x14x24 .i8) (b : Fin 6) (h : Fin 10) (s : Fin 6)
    (k : Fin 14) (n : Fin 128) :
    scaled s (xsLine x2 b h) (xLine x1 b h s) (ix2 k n) = image bitScale x1 x2 b h k (chan s n) := by
  rw [scaled_at]
  unfold image
  have e1 : xLine x1 b h s (ix4 0 0 k n) = x1 (ix4 b h k (chan s n)) := by
    refine congrArg x1 (funext fun a => Fin.ext ?_)
    revert a; intro (a : Fin 4); fin_cases a
    · show b.val + 1 * 0 = b.val; omega
    · show h.val + 1 * 0 = h.val; omega
    · show 0 + 1 * k.val = k.val; omega
    · show 128 * s.val + 1 * n.val = 128 * s.val + n.val; omega
  have e2 : xsLine x2 b h (ix4 0 0 k ⟨4 * s.val + n.val / 32, by omega⟩) = x2 (ix4 b h k ⟨(chan s n).val / 32, by omega⟩) := by
    refine congrArg x2 (funext fun a => Fin.ext ?_)
    revert a; intro (a : Fin 4); fin_cases a
    · show b.val + 1 * 0 = b.val; omega
    · show h.val + 1 * 0 = h.val; omega
    · show 0 + 1 * k.val = k.val; omega
    · show 0 + 1 * (4 * s.val + n.val / 32) = (128 * s.val + n.val) / 32; omega
  rw [e1, e2]

/-- The stored line `(b, h)` of slab `s` holds place `(s', r, n)`. -/
def Hits (b : Fin 6) (h : Fin 10) (s : Fin 6) (s' : Fin 7) (r : Fin 1512) : Prop :=
  s'.val = s.val ∧ ∃ k : Fin 14, r.val = row b h + 12 * k.val

/-- The place `(s', r, n)` after one line of one slab is stored, when the line holds it, -/
theorem fillOne_hit (x1 : Vec Ideal S6x10x14x768 .fp8e4m3) (x2 : Vec Ideal S6x10x14x24 .i8) (b : Fin 6) (h : Fin 10) (s : Fin 6)
    (X : Vec Ideal S7x1512x128 .f32) (r : Fin 1512) (n : Fin 128) (k : Fin 14) (hr : r.val = row b h + 12 * k.val) :
    fillOneX x1 x2 b h s X (ix3 s.castSucc r n) = image bitScale x1 x2 b h k (chan s n) := by
  have e : (ix3 s.castSucc r n : S7x1512x128.Idx) = lineAt s.castSucc (row b h) (row_lt b h) (ix2 k n) := by
    rw [lineAt_eq]
    exact congrArg (fun q => ix3 s.castSucc q n) (Fin.ext hr)
  have inj : Function.Injective (lineAt s.castSucc (row b h) (row_lt b h)) :=
    fun _ _ hh => (Rect.emb _).injective (place_injective _ _ hh)
  exact (congrArg _ e).trans ((upd_hit inj X _ _).trans (scaled_line x1 x2 b h s k n))

/-- and when it does not. -/
theorem fillOne_miss (x1 : Vec Ideal S6x10x14x768 .fp8e4m3) (x2 : Vec Ideal S6x10x14x24 .i8) (b : Fin 6) (h : Fin 10) (s : Fin 6)
    (X : Vec Ideal S7x1512x128 .f32) (s' : Fin 7) (r : Fin 1512) (n : Fin 128) (hn : ¬ Hits b h s s' r) :
    fillOneX x1 x2 b h s X (ix3 s' r n) = X (ix3 s' r n) := by
  unfold fillOneX
  refine upd_miss X _ fun z hz => hn ?_
  obtain ⟨k, l, rfl⟩ : ∃ (k : Fin 14) (l : Fin 128), z = ix2 k l := ⟨z 0, z 1, eq_ix2 z⟩
  rw [lineAt_eq] at hz
  exact ⟨(congrArg Fin.val (congrFun hz 0)).symm, k, (congrArg Fin.val (congrFun hz 1)).symm⟩

/-- The place after a whole line is stored, when the line does not hold it, -/
theorem fillLine_miss (x1 : Vec Ideal S6x10x14x768 .fp8e4m3) (x2 : Vec Ideal S6x10x14x24 .i8) (X : Vec Ideal S7x1512x128 .f32)
    (p : Fin 6 × Fin 10) (s : Fin 6) (r : Fin 1512) (n : Fin 128) (hn : ¬ ∃ k : Fin 14, r.val = row p.1 p.2 + 12 * k.val) :
    fillLineX x1 x2 X p (ix3 s.castSucc r n) = X (ix3 s.castSucc r n) := by
  unfold fillLineX
  have hm : ∀ q, ¬ Hits p.1 p.2 q s.castSucc r := fun q hq => hn hq.2
  rw [fillOne_miss _ _ _ _ _ _ _ _ _ (hm 5), fillOne_miss _ _ _ _ _ _ _ _ _ (hm 4), fillOne_miss _ _ _ _ _ _ _ _ _ (hm 3),
    fillOne_miss _ _ _ _ _ _ _ _ _ (hm 2), fillOne_miss _ _ _ _ _ _ _ _ _ (hm 1), fillOne_miss _ _ _ _ _ _ _ _ _ (hm 0)]

/-- and when it does. -/
theorem fillLine_hit (x1 : Vec Ideal S6x10x14x768 .fp8e4m3) (x2 : Vec Ideal S6x10x14x24 .i8) (X : Vec Ideal S7x1512x128 .f32)
    (p : Fin 6 × Fin 10) (s : Fin 6) (r : Fin 1512) (n : Fin 128) (k : Fin 14) (hr : r.val = row p.1 p.2 + 12 * k.val) :
    fillLineX x1 x2 X p (ix3 s.castSucc r n) = image bitScale x1 x2 p.1 p.2 k (chan s n) := by
  -- each of the six stores either puts the value there or leaves it
  have step : ∀ (q : Fin 6) (Y : Vec Ideal S7x1512x128 .f32),
      fillOneX x1 x2 p.1 p.2 q Y (ix3 s.castSucc r n)
        = if q = s then image bitScale x1 x2 p.1 p.2 k (chan s n) else Y (ix3 s.castSucc r n) := by
    intro q Y
    by_cases hq : q = s
    · subst hq; rw [if_pos rfl]; exact fillOne_hit x1 x2 _ _ _ Y r n k hr
    · rw [if_neg hq]
      exact fillOne_miss x1 x2 _ _ _ Y _ r n fun hh => hq (Fin.ext hh.1.symm)
  unfold fillLineX
  simp only [step]
  revert s; intro s _; fin_cases s <;> rfl

/-- A stored line's place holds the scaled image. -/
theorem filled_at (x1 : Vec Ideal S6x10x14x768 .fp8e4m3) (x2 : Vec Ideal S6x10x14x24 .i8) (b : Fin 6) (h : Fin 10) (k : Fin 14)
    (s : Fin 6) (r : Fin 1512) (n : Fin 128) (hr : r.val = row b h + 12 * k.val) :
    filled x1 x2 (ix3 s.castSucc r n) = image bitScale x1 x2 b h k (chan s n) := by
  have h1 : ∀ (X : Vec Ideal S7x1512x128 .f32) (p : Fin 6 × Fin 10), (∃ k : Fin 14, r.val = row p.1 p.2 + 12 * k.val) →
      fillLineX x1 x2 X p (ix3 s.castSucc r n) = image bitScale x1 x2 b h k (chan s n) := by
    rintro X ⟨b', h'⟩ ⟨k', hk'⟩
    have hh : b' = b ∧ h' = h ∧ k' = k := by
      have hk'' := hk'.symm.trans hr
      unfold row at hk''
      simp only at hk''
      refine ⟨Fin.ext ?_, Fin.ext ?_, Fin.ext ?_⟩ <;> omega
    obtain ⟨rfl, rfl, rfl⟩ := hh
    exact fillLine_hit x1 x2 X _ s r n _ hk'
  have h0 := fun (X : Vec Ideal S7x1512x128 .f32) (p : Fin 6 × Fin 10) hp => fillLine_miss x1 x2 X p s r n hp
  have key := fun (l : List (Fin 6 × Fin 10)) (X : Vec Ideal S7x1512x128 .f32) =>
    (foldl_at (fillLineX x1 x2) (fun p => ∃ k : Fin 14, r.val = row p.1 p.2 + 12 * k.val) (ix3 s.castSucc r n) _ h1 h0 l X).1
  have hp : ∃ p ∈ allLines, ∃ k : Fin 14, r.val = row p.1 p.2 + 12 * k.val := ⟨(b, h), mem_allLines b h, k, hr⟩
  unfold filled
  generalize allLines = l at hp ⊢
  exact key l _ hp

/-- Every other place of the data slabs holds zero. -/
theorem filled_zero (x1 : Vec Ideal S6x10x14x768 .fp8e4m3) (x2 : Vec Ideal S6x10x14x24 .i8) (s : Fin 6) (r : Fin 1512) (n : Fin 128)
    (hn : ∀ (b : Fin 6) (h : Fin 10) (k : Fin 14), r.val ≠ row b h + 12 * k.val) :
    filled x1 x2 (ix3 s.castSucc r n) = 0 := by
  have h1 : ∀ (X : Vec Ideal S7x1512x128 .f32) (p : Fin 6 × Fin 10), (∃ k : Fin 14, r.val = row p.1 p.2 + 12 * k.val) →
      fillLineX x1 x2 X p (ix3 s.castSucc r n) = (0 : EReal) := fun X p ⟨k, hk⟩ => absurd hk (hn p.1 p.2 k)
  have h0 := fun (X : Vec Ideal S7x1512x128 .f32) (p : Fin 6 × Fin 10) hp => fillLine_miss x1 x2 X p s r n hp
  have key := fun (l : List (Fin 6 × Fin 10)) (X : Vec Ideal S7x1512x128 .f32) =>
    (foldl_at (fillLineX x1 x2) (fun p => ∃ k : Fin 14, r.val = row p.1 p.2 + 12 * k.val) (ix3 s.castSucc r n) 0 h1 h0 l X).2
  unfold filled
  rw [key allLines _ fun p _ ⟨k, hk⟩ => hn p.1 p.2 k hk]
  pointwise [k0_pay1]

/-- The scaled image inside its frame of two zero rows and columns on every side. -/
def padded (sc : BitVec 8 → EReal) (x1 : Vec Ideal S6x10x14x768 .fp8e4m3) (x2 : Vec Ideal S6x10x14x24 .i8) (b : Fin 6) (i j : ℕ)
    (ch : Fin 768) : EReal :=
  if hh : (2 ≤ i ∧ i < 12) ∧ (2 ≤ j ∧ j < 16) then image sc x1 x2 b ⟨i - 2, by omega⟩ ⟨j - 2, by omega⟩ ch else 0

/-- The row a tap reads for the output pixel `(b, h, w)` holds the framed image, two rows and columns further for
    each step of the tap. -/
theorem filled_tap (x1 : Vec Ideal S6x10x14x768 .fp8e4m3) (x2 : Vec Ideal S6x10x14x24 .i8) (b : Fin 6) (h : Fin 10) (w : Fin 14)
    (kh kw : Fin 3) (s : Fin 6) (r : Fin 1512) (n : Fin 128) (hr : r.val = (kh.val * 9 + kw.val) * 24 + (orow b h + 12 * w.val)) :
    filled x1 x2 (ix3 s.castSucc r n) = padded bitScale x1 x2 b (h.val + 2 * kh.val) (w.val + 2 * kw.val) (chan s n) := by
  unfold padded
  unfold orow at hr
  by_cases hh : (2 ≤ h.val + 2 * kh.val ∧ h.val + 2 * kh.val < 12) ∧ (2 ≤ w.val + 2 * kw.val ∧ w.val + 2 * kw.val < 16)
  · rw [dif_pos hh]
    refine filled_at x1 x2 b _ _ s r n ?_
    unfold row
    simp only
    omega
  · rw [dif_neg hh]
    refine filled_zero x1 x2 s r n fun b' h' k' he => hh ?_
    unfold row at he
    have := b.2; have := b'.2; have := h.2; have := h'.2; have := w.2; have := k'.2; have := kh.2; have := kw.2
    omega

end Cert.KernelIdeal.Conv

end
-- ==== Proof.Conv.Acc.lean ====
/- What the accumulator and the output block hold: the bias and the nine taps' sums of products. -/
module

public import proofs.«01_k».proof.Proof.Conv.Image

@[expose] public section

set_option maxRecDepth 16384

noncomputable section

namespace Cert.KernelIdeal.Conv

open Idealize.ShloMosaic Idealize.ShloMosaic.TcCoe Cert.KernelIdeal Cert.KernelIdeal.Gen Cert.Conv

/-- The part of one output element the tap `p` gives: over the channels, the framed image times the scaled weight. `w` and `ws`
    are the weights' codes and scale bytes of the element's column. -/
def tapSum (sc : BitVec 8 → EReal) (x1 : Vec Ideal S6x10x14x768 .fp8e4m3) (x2 : Vec Ideal S6x10x14x24 .i8)
    (w : Fin 3 → Fin 3 → Fin 768 → EReal) (ws : Fin 3 → Fin 3 → Fin 24 → BitVec 8) (b : Fin 6) (h : Fin 10) (k : Fin 14)
    (p : Fin 3 × Fin 3) : EReal :=
  ∑ ch : Fin 768, padded sc x1 x2 b (h.val + 2 * p.1.val) (k.val + 2 * p.2.val) ch
    * (w p.1 p.2 ch * sc (ws p.1 p.2 ⟨ch.val / 32, by omega⟩))

/-- One output element: the bias and the nine taps. -/
def pixel (sc : BitVec 8 → EReal) (x1 : Vec Ideal S6x10x14x768 .fp8e4m3) (x2 : Vec Ideal S6x10x14x24 .i8)
    (w : Fin 3 → Fin 3 → Fin 768 → EReal) (ws : Fin 3 → Fin 3 → Fin 24 → BitVec 8) (bias : EReal) (b : Fin 6) (h : Fin 10) (k : Fin 14) : EReal :=
  bias + (allTaps.map (tapSum sc x1 x2 w ws b h k)).sum

/-- The six slabs' rows side by side: channel `ch` is lane `ch % 128` of slab `ch / 128`. -/
theorem rows_at (q : Fin 6 → Vec Ideal S1x1032x128 .f32) (R : Fin 1032) (ch : Fin 768) :
    k0_pay663 (q 0) (q 1) (q 2) (q 3) (q 4) (q 5) (ix2 R ch)
      = q ⟨ch.val / 128, by omega⟩ (ix3 0 R ⟨ch.val % 128, by omega⟩) := by
  have hq : ∀ (s s' : Fin 6) (l l' : Fin 128), s = s' → l = l' → q s (ix3 0 R l) = q s' (ix3 0 R l') := by
    rintro _ _ _ _ rfl rfl; rfl
  pointwise [k0_pay663]
  have := ch.2
  split_ifs
  all_goals
    refine hq _ _ _ _ (Fin.ext ?_) (Fin.ext ?_)
    all_goals (simp only [Fin.isValue, Fin.coe_ofNat_eq_mod]; omega)

/-- The row `R` of a slab a tap reads is the row of the carried buffer the tap's shift further. -/
theorem tapRows_at (X : Vec Ideal S7x1512x128 .f32) (s : Fin 6) (kh kw : Fin 3) (R : Fin 1032) (l : Fin 128) :
    tapRows X s kh kw (ix3 0 R l) = X (ix3 s.castSucc ⟨(kh.val * 9 + kw.val) * 24 + R.val, by omega⟩ l) := by
  refine congrArg X (funext fun a => Fin.ext ?_)
  rw [LoadRect.idx_apply]
  revert a; intro (a : Fin 3); fin_cases a
  · show s.val + 1 * 0 = s.val; omega
  · show (kh.val * 9 + kw.val) * 24 + 1 * R.val = (kh.val * 9 + kw.val) * 24 + R.val; omega
  · show 0 + 1 * l.val = l.val; omega

/-- One tap adds its sum to every output element. -/
theorem tapA_at (x1 : Vec Ideal S6x10x14x768 .fp8e4m3) (x2 : Vec Ideal S6x10x14x24 .i8) (x3 : Vec Ideal S3x3x768x384 .fp8e4m3)
    (x4 : Vec Ideal S3x3x24x384 .i8) (b : Fin 6) (h : Fin 10) (k : Fin 14) (n : Fin 384) (R : Fin 1032) (hR : R.val = orow b h + 12 * k.val)
    (A : Vec Ideal S1032x384 .f32) (p : Fin 3 × Fin 3) :
    tapA x3 x4 (filled x1 x2) A p (ix2 R n)
      = A (ix2 R n) + tapSum bitScale x1 x2 (fun kh kw ch => x3 (ix4 kh kw ch n)) (fun kh kw g => x4 (ix4 kh kw g n)) b h k p := by
  unfold tapA tapSum
  pointwise [k0_pay664]
  refine congrArg (A (ix2 R n) + ·) (Finset.sum_congr rfl fun ch _ => ?_)
  rw [rows_at (fun s => tapRows (filled x1 x2) s p.1 p.2), tapRows_at, filled_tap x1 x2 b h k p.1 p.2 _ _ _ (congrArg (_ + ·) hR)]
  have hc : chan ⟨ch.val / 128, by omega⟩ ⟨ch.val % 128, by omega⟩ = ch := Fin.ext (by show 128 * (ch.val / 128) + ch.val % 128 = ch.val; omega)
  rw [hc]
  rfl

/-- Steps that each add a term at one place add the terms' sum. -/
theorem foldl_add {ι κ : Type} (f : (κ → EReal) → ι → κ → EReal) (t : ι → EReal) (j : κ) (h : ∀ A p, f A p j = A j + t p) (l : List ι)
    (A : κ → EReal) : l.foldl f A j = A j + (l.map t).sum := by
  induction l generalizing A with
  | nil => exact (add_zero _).symm
  | cons p l ih => rw [List.foldl_cons, ih, h, List.map_cons, List.sum_cons, add_assoc]

/-- The output block, element by element. -/
theorem outBlk_at (x1 : Vec Ideal S6x10x14x768 .fp8e4m3) (x2 : Vec Ideal S6x10x14x24 .i8) (x3 : Vec Ideal S3x3x768x384 .fp8e4m3)
    (x4 : Vec Ideal S3x3x24x384 .i8) (x5 : Vec Ideal S1x384 .f32) (b : Fin 6) (h : Fin 10) (k : Fin 14) (n : Fin 384) :
    outBlk (acc x3 x4 x5 (filled x1 x2)) (ix4 b h k n)
      = pixel bitScale x1 x2 (fun kh kw ch => x3 (ix4 kh kw ch n)) (fun kh kw g => x4 (ix4 kh kw g n)) (x5 (ix2 0 n)) b h k := by
  unfold outBlk acc pixel
  refine (foldl_add (tapA x3 x4 (filled x1 x2)) _ _ (fun A p => tapA_at x1 x2 x3 x4 b h k n _ rfl A p) allTaps _).trans ?_
  refine congrArg (· + _) ?_
  pointwise [k0_pay662]

end Cert.KernelIdeal.Conv

end
-- ==== Proof.Conv.Reference.lean ====
/- What the reference computes, element by element. -/
module

public import proofs.«01_k».proof.Proof.Conv.Acc
public import proofs.«01_k».proof.Proof.Gen.ReferenceIdeal.Value
public import Idealize.ShloMosaic.Lib.Pointwise

@[expose] public section

set_option maxRecDepth 16384

noncomputable section

namespace Cert.ReferenceIdeal.Conv

open Idealize.ShloMosaic Idealize.ShloMosaic.TcCoe Cert.ReferenceIdeal Cert.ReferenceIdeal.Gen Cert.Conv
open Cert.KernelIdeal.Conv (image padded tapSum pixel allTaps)

/-- The pixel `(b, h, k)` as a row of the products. -/
abbrev prow (b : Fin 6) (h : Fin 10) (k : Fin 14) : Fin 840 := ⟨b.val * 140 + h.val * 14 + k.val, by omega⟩

/-- The decoded weights. -/
theorem weights_at (w : Vec Ideal S3x3x768x1152 .fp8e4m3) (ws : Vec Ideal S3x3x24x1152 .i8) (kh kw : Fin 3) (ch : Fin 768) (n : Fin 1152) :
    k0_pay2 w ws (ix4 kh kw ch n) = w (ix4 kh kw ch n) * powScale (ws (ix4 kh kw ⟨ch.val / 32, by omega⟩ n)) := by
  pointwise [k0_pay2]
  rfl

/-- The decoded, framed images. -/
theorem padded_at (x : Vec Ideal S6x10x14x768 .fp8e4m3) (xs : Vec Ideal S6x10x14x24 .i8) (b : Fin 6) (i : Fin 14) (j : Fin 18) (ch : Fin 768) :
    k0_pay3 x xs (ix4 b i j ch) = padded powScale x xs b i.val j.val ch := by
  unfold padded
  pointwise [k0_pay3]
  have hz : (((0#32).toInt : ℝ) : EReal) = 0 := by simp
  simp only [hz]
  split_ifs
  all_goals first | rfl | (exfalso; omega) | (rw [dif_pos (by omega)]; rfl) | rw [dif_neg (by omega)] | exact absurd rfl ‹_›

/-- One tap's product, at the slices' offsets. -/
theorem dot_at (i j u v : ℕ) (hi : i < 5) (hj : j < 5) (hu : u < 3) (hv : v < 3) (hs) (hw) (X : FVec Ideal S6x14x18x768 .bf16)
    (W : FVec Ideal S3x3x768x1152 .bf16) (b : Fin 6) (h : Fin 10) (k : Fin 14) (n : Fin 1152) :
    matmul dot_S840x768_S768x1152_S840x1152_1_0_0_1_n_n none
        (shapeCast S840x768 (extractStridedSlice S6x10x14x768 ![0, i, j, 0] X hs) shapeCasts_S6x10x14x768_S840x768)
        (shapeCast S768x1152 (extractStridedSlice S1x1x768x1152 ![u, v, 0, 0] W hw) shapeCasts_S1x1x768x1152_S768x1152)
        (constant S840x1152 .f32 0x00000000#32) (ix2 (prow b h k) n)
      = ∑ ch : Fin 768, X (ix4 b ⟨h.val + i, by omega⟩ ⟨k.val + j, by omega⟩ ch) * W (ix4 ⟨u, hu⟩ ⟨v, hv⟩ ch n) := by
  have e : ∀ ch, (ix4 ⟨(prow b h k).val / 140, by have := (prow b h k).2; omega⟩ ⟨i + (prow b h k).val / 14 % 10, by omega⟩
      ⟨j + (prow b h k).val % 14, by omega⟩ ch : S6x14x18x768.Idx) = ix4 b ⟨h.val + i, by omega⟩ ⟨k.val + j, by omega⟩ ch := fun ch => by
    rw [ix4_inj]
    refine ⟨Fin.ext ?_, Fin.ext ?_, Fin.ext ?_, rfl⟩ <;> simp only <;> omega
  pointwise []
  exact Finset.sum_congr rfl fun ch _ => congrArg (X · * W (ix4 ⟨u, hu⟩ ⟨v, hv⟩ ch n)) (e ch)

/-- One tap's product is its sum. -/
theorem tap_at (p : Fin 3 × Fin 3) (i j u v : ℕ) (hi : 2 * p.1.val = i) (hj : 2 * p.2.val = j) (hu : p.1.val = u) (hv : p.2.val = v) (hs) (hw)
    (x : Vec Ideal S6x10x14x768 .fp8e4m3) (xs : Vec Ideal S6x10x14x24 .i8) (w : Vec Ideal S3x3x768x1152 .fp8e4m3)
    (ws : Vec Ideal S3x3x24x1152 .i8) (b : Fin 6) (h : Fin 10) (k : Fin 14) (n : Fin 1152) :
    matmul dot_S840x768_S768x1152_S840x1152_1_0_0_1_n_n none
        (shapeCast S840x768 (extractStridedSlice S6x10x14x768 ![0, i, j, 0] (k0_pay3 x xs) hs) shapeCasts_S6x10x14x768_S840x768)
        (shapeCast S768x1152 (extractStridedSlice S1x1x768x1152 ![u, v, 0, 0] (k0_pay2 w ws) hw) shapeCasts_S1x1x768x1152_S768x1152)
        (constant S840x1152 .f32 0x00000000#32) (ix2 (prow b h k) n)
      = tapSum powScale x xs (fun kh kw ch => w (ix4 kh kw ch n)) (fun kh kw g => ws (ix4 kh kw g n)) b h k p := by
  subst hi hj hu hv
  rw [dot_at _ _ _ _ (by omega) (by omega) p.1.2 p.2.2]
  unfold tapSum
  exact Finset.sum_congr rfl fun ch _ => congrArg₂ (· * ·) (padded_at x xs b _ _ ch) (weights_at w ws p.1 p.2 ch n)

/-- The reference's result, element by element. -/
theorem out_at (x : Vec Ideal S6x10x14x768 .fp8e4m3) (xs : Vec Ideal S6x10x14x24 .i8) (w : Vec Ideal S3x3x768x1152 .fp8e4m3)
    (ws : Vec Ideal S3x3x24x1152 .i8) (bias : Vec Ideal S1x1152 .f32) (b : Fin 6) (h : Fin 10) (k : Fin 14) (n : Fin 1152) :
    k0_pay1 (k0_pay6 (k0_pay2 w ws) (k0_pay3 x xs) k0_pay4 (k0_pay5 x xs)) (k0_pay7 (k0_pay2 w ws) (k0_pay3 x xs)) bias (ix4 b h k n)
      = pixel powScale x xs (fun kh kw ch => w (ix4 kh kw ch n)) (fun kh kw g => ws (ix4 kh kw g n)) (bias (ix2 0 n)) b h k := by
  have add : ∀ (y z : FVec Ideal S840x1152 .f32) (q : S840x1152.Idx), addf y z q = y q + z q := fun _ _ _ => rfl
  have zero : ∀ q, k0_pay4 (F := Ideal) q = (0 : EReal) := fun q => by
    obtain ⟨r, l, rfl⟩ : ∃ (r : Fin 840) (l : Fin 1152), q = ix2 r l := ⟨q 0, q 1, eq_ix2 q⟩
    pointwise [k0_pay4]
  have last : k0_pay1 (k0_pay6 (k0_pay2 w ws) (k0_pay3 x xs) k0_pay4 (k0_pay5 x xs)) (k0_pay7 (k0_pay2 w ws) (k0_pay3 x xs)) bias (ix4 b h k n)
      = k0_pay6 (k0_pay2 w ws) (k0_pay3 x xs) k0_pay4 (k0_pay5 x xs) (ix2 (prow b h k) n)
        + k0_pay7 (k0_pay2 w ws) (k0_pay3 x xs) (ix2 (prow b h k) n) + bias (ix2 0 n) := by
    pointwise [k0_pay1]
  rw [last]
  unfold k0_pay6 k0_pay7 k0_pay5
  simp only [add, zero]
  rw [tap_at (0, 0) 0 0 0 0 rfl rfl rfl rfl, tap_at (0, 1) 0 2 0 1 rfl rfl rfl rfl, tap_at (0, 2) 0 4 0 2 rfl rfl rfl rfl,
    tap_at (1, 0) 2 0 1 0 rfl rfl rfl rfl, tap_at (1, 1) 2 2 1 1 rfl rfl rfl rfl, tap_at (1, 2) 2 4 1 2 rfl rfl rfl rfl,
    tap_at (2, 0) 4 0 2 0 rfl rfl rfl rfl, tap_at (2, 1) 4 2 2 1 rfl rfl rfl rfl, tap_at (2, 2) 4 4 2 2 rfl rfl rfl rfl]
  unfold pixel
  rw [add_comm]
  refine congrArg (bias (ix2 0 n) + ·) ?_
  simp [Cert.KernelIdeal.Conv.allTaps, add_assoc]

end Cert.ReferenceIdeal.Conv

end
-- ==== Proof.Conv.Result.lean ====
/- The array the kernel leaves: its three blocks of columns make up one function of the arguments. -/
module

public import proofs.«01_k».proof.Proof.Conv.Acc
public import proofs.«01_k».proof.Proof.Conv.Frame
public import Idealize.ShloMosaic.Lib.Pipeline.Value

@[expose] public section

set_option maxRecDepth 16384

noncomputable section

namespace Cert.KernelIdeal.Conv

open Idealize.ShloMosaic Idealize.ShloMosaic.TcCoe Cert.KernelIdeal Cert.KernelIdeal.Gen Cert.Conv
open Idealize.SL.Sem
open Idealize.ShloMosaic.Pipeline (Dat)

/-- The whole result as a function of the arguments. -/
def result (sc : BitVec 8 → EReal) (x : Vec Ideal S6x10x14x768 .fp8e4m3) (xs : Vec Ideal S6x10x14x24 .i8) (w : Vec Ideal S3x3x768x1152 .fp8e4m3)
    (ws : Vec Ideal S3x3x24x1152 .i8) (bias : Vec Ideal S1152 .f32) : Vec Ideal S6x10x14x1152 .bf16 := fun i =>
  pixel sc x xs (fun kh kw ch => w (ix4 kh kw ch (i 3))) (fun kh kw g => ws (ix4 kh kw g (i 3))) (bias (ix1 (i 3))) (i 0) (i 1) (i 2)

variable (m : (ℓ : Loc nD τ sig) → Buf (Elt Ideal) ℓ) (ρ : Dev nD → PrngReg)

/-- The windows' block indices: the images' stay, the others' move along the columns. -/
theorem idx : ∀ t : Fin cfg0.N, win0_0.index t = ![0, 0, 0, 0] ∧ win0_1.index t = ![0, 0, 0, 0] ∧ win0_2.index t = ![0, 0, 0, t.val]
    ∧ win0_3.index t = ![0, 0, 0, t.val] ∧ win0_4.index t = ![0, t.val] ∧ win0_5.index t = ![0, 0, 0, t.val] :=
  (by decide +kernel : ∀ t : Fin grid0.N, _)

/-- The column of the whole result that column `n` of block `t` is. -/
abbrev col (t : Fin cfg0.N) (n : Fin 384) : Fin 1152 :=
  ⟨384 * t.val + n.val, by have : t.val < 3 := lt_of_lt_of_eq t.isLt (show cfg0.N = 3 from N_0); omega⟩

/-- The images' blocks are the images whole. -/
theorem iblk0 (c : Dev nD) (t : Fin cfg0.N) : iblk m c 0 t = m ((c : Thread nD τ).loc main_arg0) := by
  refine (funext fun j => congrArg (V m c main_arg0) (funext fun a => Fin.ext ?_)).trans (V_main_arg0 m c)
  exact win0_0.rect_emb_val_of_index_zero t a (by rw [(idx t).1]; revert a; intro (a : Fin 4); fin_cases a <;> rfl) j

/-- So are their scales' blocks. -/
theorem iblk1 (c : Dev nD) (t : Fin cfg0.N) : iblk m c 1 t = m ((c : Thread nD τ).loc main_arg1) := by
  refine (funext fun j => congrArg (V m c main_arg1) (funext fun a => Fin.ext ?_)).trans (V_main_arg1 m c)
  exact win0_1.rect_emb_val_of_index_zero t a (by rw [(idx t).2.1]; revert a; intro (a : Fin 4); fin_cases a <;> rfl) j

/-- A block of the weights is the weights' columns of that block. -/
theorem iblk2 (c : Dev nD) (t : Fin cfg0.N) (kh kw : Fin 3) (ch : Fin 768) (n : Fin 384) :
    iblk m c 2 t (ix4 kh kw ch n : S3x3x768x384.Idx) = m ((c : Thread nD τ).loc main_arg2) (ix4 kh kw ch (col t n) : S3x3x768x1152.Idx) := by
  rw [← V_main_arg2 m c]
  refine congrArg (V m c main_arg2) (funext fun a => Fin.ext ((win0_2.rect_emb_val t _ a).trans ?_))
  rw [(idx t).2.2.1]
  revert a; intro (a : Fin 4); fin_cases a
  · show 0 * 3 + kh.val = kh.val; omega
  · show 0 * 3 + kw.val = kw.val; omega
  · show 0 * 768 + ch.val = ch.val; omega
  · show t.val * 384 + n.val = 384 * t.val + n.val; omega

/-- A block of the weights' scales likewise. -/
theorem iblk3 (c : Dev nD) (t : Fin cfg0.N) (kh kw : Fin 3) (g : Fin 24) (n : Fin 384) :
    iblk m c 3 t (ix4 kh kw g n : S3x3x24x384.Idx) = m ((c : Thread nD τ).loc main_arg3) (ix4 kh kw g (col t n) : S3x3x24x1152.Idx) := by
  rw [← V_main_arg3 m c]
  refine congrArg (V m c main_arg3) (funext fun a => Fin.ext ((win0_3.rect_emb_val t _ a).trans ?_))
  rw [(idx t).2.2.2.1]
  revert a; intro (a : Fin 4); fin_cases a
  · show 0 * 3 + kh.val = kh.val; omega
  · show 0 * 3 + kw.val = kw.val; omega
  · show 0 * 24 + g.val = g.val; omega
  · show t.val * 384 + n.val = 384 * t.val + n.val; omega

/-- The launch turns the bias into one row. -/
theorem bias_row (c : Dev nD) (n : Fin 1152) :
    V m c main_v0 (ix2 0 n : S1x1152.Idx) = m ((c : Thread nD τ).loc main_arg4) (ix1 n : S1152.Idx) := by
  unfold V
  simp only [StableHlo.after_cons, StableHlo.after_nil]
  rw [StableHlo.reshape_result]
  show shapeCast S1x1152 (m ((c : Thread nD τ).loc main_arg4) : Vec Ideal S1152 .f32) shapeCasts_S1152_S1x1152 (ix2 0 n) = _
  pointwise []

/-- A block of the bias's row is the bias at the block's columns. -/
theorem iblk4 (c : Dev nD) (t : Fin cfg0.N) (n : Fin 384) :
    iblk m c 4 t (ix2 0 n : S1x384.Idx) = m ((c : Thread nD τ).loc main_arg4) (ix1 (col t n) : S1152.Idx) := by
  rw [← bias_row m c]
  refine congrArg (V m c main_v0) (funext fun a => Fin.ext ((win0_4.rect_emb_val t _ a).trans ?_))
  rw [(idx t).2.2.2.2.1]
  revert a; intro (a : Fin 2); fin_cases a
  · rfl
  · show t.val * 384 + n.val = 384 * t.val + n.val; omega

/-- The place in the whole result of an element of block `t`. -/
theorem emb5 (t : Fin cfg0.N) (b : Fin 6) (h : Fin 10) (k : Fin 14) (n : Fin 384) :
    ((cfg0.win 5).blk t).view.emb (ix4 b h k n : S6x10x14x384.Idx) = (ix4 b h k (col t n) : S6x10x14x1152.Idx) := by
  refine funext fun a => Fin.ext ((win0_5.rect_emb_val t _ a).trans ?_)
  rw [(idx t).2.2.2.2.2]
  revert a; intro (a : Fin 4); fin_cases a
  · show 0 * 6 + b.val = b.val; omega
  · show 0 * 10 + h.val = h.val; omega
  · show 0 * 14 + k.val = k.val; omega
  · show t.val * 384 + n.val = 384 * t.val + n.val; omega

/-- The result of the launch's arguments. -/
abbrev resultOf (sc : BitVec 8 → EReal) (c : Dev nD) : Vec Ideal S6x10x14x1152 .bf16 :=
  result sc (m ((c : Thread nD τ).loc main_arg0)) (m ((c : Thread nD τ).loc main_arg1)) (m ((c : Thread nD τ).loc main_arg2))
    (m ((c : Thread nD τ).loc main_arg3)) (m ((c : Thread nD τ).loc main_arg4))

/-- What grid point `t` writes back is its columns of the result. -/
theorem flushed5 (c : Dev nD) (t : Fin cfg0.N) :
    (dats m 0 c).flushed 5 t = ((cfg0.win 5).blk t).view.read (Elt Ideal) (resultOf m bitScale c) := by
  show (cfg0.win 5).cut (grid0.coords t) ((dats m 0 c).after 5 t) = _
  rw [after_5]
  funext j
  obtain ⟨b, h, k, n, rfl⟩ : ∃ (b : Fin 6) (h : Fin 10) (k : Fin 14) (n : Fin 384), j = (ix4 b h k n : S6x10x14x384.Idx) :=
    ⟨j 0, j 1, j 2, j 3, eq_ix4 j⟩
  show blockAt m c t (ix4 b h k n) = resultOf m bitScale c (((cfg0.win 5).blk t).view.emb (ix4 b h k n : S6x10x14x384.Idx))
  rw [emb5]
  unfold blockAt
  rw [carried_eq m c t, outBlk_at, iblk0, iblk1, iblk4]
  simp only [iblk2, iblk3]
  rfl

/-- Every element of the result is in some block. -/
theorem covered (i : S6x10x14x1152.Idx) : ∃ t : Fin cfg0.N, (cfg0.win 5).flush t = true ∧ i ∈ ((cfg0.win 5).blk t).view.set := by
  obtain ⟨b, h, k, n, rfl⟩ : ∃ (b : Fin 6) (h : Fin 10) (k : Fin 14) (n : Fin 1152), i = ix4 b h k n := ⟨i 0, i 1, i 2, i 3, eq_ix4 i⟩
  have ht : n.val / 384 < cfg0.N := by rw [show cfg0.N = 3 from N_0]; omega
  refine ⟨⟨n.val / 384, ht⟩, flush0_5 _, ?_⟩
  have e := emb5 ⟨n.val / 384, ht⟩ b h k ⟨n.val % 384, by omega⟩
  rw [show col ⟨n.val / 384, ht⟩ ⟨n.val % 384, by omega⟩ = n from
    Fin.ext (by show 384 * (n.val / 384) + n.val % 384 = n.val; omega)] at e
  rw [← e]
  exact View.emb_mem_set _ _

/-- Every weakly fair execution ends with the result in place and the arguments unchanged. -/
theorem run : θ_run defs (onTc (τ := τ) (Cert.KernelIdeal.main (F := Ideal))) ⟨m, fun _ => 0, ρ⟩ fun r => ∀ c : Dev nD,
      r.2.mem ((c : Thread nD τ).loc main_v1) = resultOf m bitScale c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  have value := (θ_run defs _ _).mono (fun _ h c => ((h c).1 5).trans
    ((dats m 0 c).arrAt_eq_of_cover 5 _ (fun t _ => flushed5 m c t) covered)) (run_main m ρ)
  (θ_run defs _ _).mono (fun _ h c => ⟨h.2 c, h.1.1 c⟩) (θ_run_and (frame m ρ) value)

end Cert.KernelIdeal.Conv

end
-- ==== Proof.Conv.ReferenceResult.lean ====
/- The array the reference leaves: one function of the arguments, the kernel's with scales read as powers of two. -/
module

public import proofs.«01_k».proof.Proof.Conv.Reference
public import proofs.«01_k».proof.Proof.Conv.Result

@[expose] public section

set_option maxRecDepth 16384

noncomputable section

namespace Cert.ReferenceIdeal.Conv

open Idealize.ShloMosaic Idealize.ShloMosaic.TcCoe Cert.ReferenceIdeal Cert.ReferenceIdeal.Gen Cert.Conv
open Idealize.SL.Sem
open Idealize.ShloMosaic.Pipeline (Dat)
open Cert.KernelIdeal.Conv (result)

variable (m : (ℓ : Loc nD τ sig) → Buf (Elt Ideal) ℓ) (ρ : Dev nD → PrngReg)

/-- Every window's block is its array whole. -/
theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0] ∧ win0_5.index t = ![0, 0, 0, 0] :=
  (by decide +kernel : ∀ t : Fin grid0.N, _)

theorem zero4 (a : Fin 4) : (![0, 0, 0, 0] : Fin 4 → ℕ) a = 0 := by fin_cases a <;> rfl
theorem zero2 (a : Fin 2) : (![0, 0] : Fin 2 → ℕ) a = 0 := by fin_cases a <;> rfl

theorem iblk0 (c : Dev nD) (t : Fin cfg0.N) : iblk m c 0 t = m ((c : Thread nD τ).loc main_arg0) :=
  (funext fun j => congrArg (V m c main_arg0) (funext fun a => Fin.ext
    (win0_0.rect_emb_val_of_index_zero t a (by rw [(idx t).1]; exact zero4 a) j))).trans (V_main_arg0 m c)
theorem iblk1 (c : Dev nD) (t : Fin cfg0.N) : iblk m c 1 t = m ((c : Thread nD τ).loc main_arg1) :=
  (funext fun j => congrArg (V m c main_arg1) (funext fun a => Fin.ext
    (win0_1.rect_emb_val_of_index_zero t a (by rw [(idx t).2.1]; exact zero4 a) j))).trans (V_main_arg1 m c)
theorem iblk2 (c : Dev nD) (t : Fin cfg0.N) : iblk m c 2 t = m ((c : Thread nD τ).loc main_arg2) :=
  (funext fun j => congrArg (V m c main_arg2) (funext fun a => Fin.ext
    (win0_2.rect_emb_val_of_index_zero t a (by rw [(idx t).2.2.1]; exact zero4 a) j))).trans (V_main_arg2 m c)
theorem iblk3 (c : Dev nD) (t : Fin cfg0.N) : iblk m c 3 t = m ((c : Thread nD τ).loc main_arg3) :=
  (funext fun j => congrArg (V m c main_arg3) (funext fun a => Fin.ext
    (win0_3.rect_emb_val_of_index_zero t a (by rw [(idx t).2.2.2.1]; exact zero4 a) j))).trans (V_main_arg3 m c)
theorem iblk4 (c : Dev nD) (t : Fin cfg0.N) : iblk m c 4 t = V m c main_v0 :=
  funext fun j => congrArg (V m c main_v0) (funext fun a => Fin.ext
    (win0_4.rect_emb_val_of_index_zero t a (by rw [(idx t).2.2.2.2.1]; exact zero2 a) j))
theorem emb5 (t : Fin cfg0.N) (j : S6x10x14x1152.Idx) : ((cfg0.win 5).blk t).view.emb j = j :=
  funext fun a => Fin.ext (win0_5.rect_emb_val_of_index_zero t a (by rw [(idx t).2.2.2.2.2]; exact zero4 a) j)

/-- The launch turns the bias into one row. -/
theorem bias_row (c : Dev nD) (n : Fin 1152) :
    V m c main_v0 (ix2 0 n : S1x1152.Idx) = m ((c : Thread nD τ).loc main_arg4) (ix1 n : S1152.Idx) := by
  unfold V
  simp only [StableHlo.after_cons, StableHlo.after_nil]
  rw [StableHlo.reshape_result]
  show shapeCast S1x1152 (m ((c : Thread nD τ).loc main_arg4) : Vec Ideal S1152 .f32) shapeCasts_S1152_S1x1152 (ix2 0 n) = _
  pointwise []

/-- The result of the launch's arguments. -/
abbrev resultOf (c : Dev nD) : Vec Ideal S6x10x14x1152 .bf16 :=
  result powScale (m ((c : Thread nD τ).loc main_arg0)) (m ((c : Thread nD τ).loc main_arg1)) (m ((c : Thread nD τ).loc main_arg2))
    (m ((c : Thread nD τ).loc main_arg3)) (m ((c : Thread nD τ).loc main_arg4))

/-- What the one grid point writes back is the result. -/
theorem flushed5 (c : Dev nD) (t : Fin cfg0.N) :
    (dats m 0 c).flushed 5 t = ((cfg0.win 5).blk t).view.read (Elt Ideal) (resultOf m c) := by
  rw [Value.flushed5]
  funext j
  obtain ⟨b, h, k, n, rfl⟩ : ∃ (b : Fin 6) (h : Fin 10) (k : Fin 14) (n : Fin 1152), j = (ix4 b h k n : S6x10x14x1152.Idx) :=
    ⟨j 0, j 1, j 2, j 3, eq_ix4 j⟩
  show out0_5 (iblk m c 0 t) (iblk m c 1 t) (iblk m c 2 t) (iblk m c 3 t) (iblk m c 4 t) (ix4 b h k n)
    = resultOf m c (((cfg0.win 5).blk t).view.emb (ix4 b h k n : S6x10x14x1152.Idx))
  rw [emb5, iblk0, iblk1, iblk2, iblk3, iblk4]
  unfold_out out0_5
  have z4 : (![0, 0, 0, 0] : Fin 4 → ℕ) = fun _ => 0 := funext zero4
  rw [View.canon_unit_zero z4]
  simp only [View.ld_unit_zero (S := S6x10x14x768) z4, View.ld_unit_zero (S := S6x10x14x24) z4, View.ld_unit_zero (S := S3x3x768x1152) z4,
    View.ld_unit_zero (S := S3x3x24x1152) z4, View.ld_unit_zero (S := S1x1152) (funext zero2)]
  rw [out_at, bias_row]
  rfl

/-- Every weakly fair execution ends with the result in place and the arguments unchanged. -/
theorem run : θ_run defs (onTc (τ := τ) (Cert.ReferenceIdeal.main (F := Ideal))) ⟨m, fun _ => 0, ρ⟩ fun r => ∀ c : Dev nD,
      r.2.mem ((c : Thread nD τ).loc main_v1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  have covered (i : S6x10x14x1152.Idx) : ∃ t : Fin cfg0.N, (cfg0.win 5).flush t = true ∧ i ∈ ((cfg0.win 5).blk t).view.set := by
    have hN : 0 < cfg0.N := by rw [show cfg0.N = 1 from N_0]; decide
    refine ⟨⟨0, hN⟩, flush0_5 _, ?_⟩
    have e := View.emb_mem_set ((cfg0.win 5).blk ⟨0, hN⟩).view i
    rwa [emb5] at e
  (θ_run defs _ _).mono (fun _ h c => ⟨(h c).1.trans
    ((dats m 0 c).arrAt_eq_of_cover 5 _ (fun t _ => flushed5 m c t) covered), (h c).2⟩) (Value.run_blocks m ρ)

end Cert.ReferenceIdeal.Conv

end
-- ==== Proof.Conv.Equal.lean ====
/- With no scale byte at either end of its range, the two readings of a scale give one result. -/
module

public import proofs.«01_k».proof.Defs
public import proofs.«01_k».proof.Proof.Conv.Scale
public import proofs.«01_k».proof.Proof.Conv.ReferenceResult

@[expose] public section

set_option maxRecDepth 16384

noncomputable section

namespace Cert.Conv

open Idealize.ShloMosaic Idealize.ShloMosaic.TcCoe Cert.KernelIdeal
open Cert.KernelIdeal.Conv

/-- A comparison for "differs from `v`" that is one everywhere says so of every byte. -/
theorem ne_of_ones {S T : Shape} {dims : Fin S.rank → Fin T.rank} (hb : S.BroadcastsInDim T dims) {x : IVec T 8} (v : BitVec 8)
    (h : cmpi .ne x (broadcastInDim T dims hb (constantI S 8 v)) = fun _ => 1#1) (i : T.Idx) : x i ≠ v := by
  intro e
  have e1 : cmpi .ne x (broadcastInDim T dims hb (constantI S 8 v)) i = 1#1 := congrFun h i
  simp [cmpi, broadcastInDim, constantI, IntOp.cmpi, e] at e1

theorem result_eq (x : Vec Ideal S6x10x14x768 .fp8e4m3) (xs : Vec Ideal S6x10x14x24 .i8) (w : Vec Ideal S3x3x768x1152 .fp8e4m3)
    (ws : Vec Ideal S3x3x24x1152 .i8) (bias : Vec Ideal S1152 .f32)
    (hx : ∀ i, bitScale (xs i) = powScale (xs i)) (hw : ∀ i, bitScale (ws i) = powScale (ws i)) :
    result bitScale x xs w ws bias = result powScale x xs w ws bias := by
  funext i
  unfold result pixel tapSum padded image
  simp only [hx, hw]

end Cert.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_scales_are_normal
public import proofs.«01_k».proof.Proof.Conv.Twin
public import proofs.«01_k».proof.Proof.Conv.Equal
public import Idealize.ShloMosaic.Adequacy
public import Idealize.ShloMosaic.Init

@[expose] public section

noncomputable section

namespace Cert.Proof

open Idealize.ShloMosaic Idealize.ShloMosaic.TcCoe Idealize.SL.Sem Cert.Conv

/-- Both programs end with the same convolution: the kernel reads a scale byte as the bits of a float, the reference as a power
    of two, and the precondition leaves only the bytes at which these are the same number. -/
theorem algebraic [Cert.Pre_scales_are_normal.Facts] : Cert.algebraic_KernelIdeal_ReferenceIdeal_pre_scales_are_normal := by
  intro m g m' g' hpre hargs
  refine ⟨fun c => Cert.KernelIdeal.Conv.resultOf m bitScale c, Cert.KernelIdeal.Conv.run m g, ?_⟩
  refine (θ_run _ _ _).mono (fun _ h c => ⟨(h c).1.trans ?_, (h c).2⟩) (Cert.ReferenceIdeal.Conv.run m' g')
  obtain ⟨a0, a1, a2, a3, a4⟩ := hargs c
  obtain ⟨x0, x255, w0, w255⟩ := hpre c
  unfold Cert.ReferenceIdeal.Conv.resultOf
  rw [a0, a1, a2, a3, a4]
  exact (result_eq _ _ _ _ _ (fun i => bitScale_eq _ (ne_of_ones _ _ x0 i) (ne_of_ones _ _ x255 i))
    (fun i => bitScale_eq _ (ne_of_ones _ _ w0 i) (ne_of_ones _ _ w255 i))).symm

theorem claim : Cert.Claim :=
  ⟨Cert.Kernel.Gen.facts, Cert.KernelIdeal.Gen.facts, Cert.ReferenceIdeal.Gen.facts, Cert.Pre_scales_are_normal.Gen.facts,
    fun m ρ _ => Cert.Kernel.Conv.frame m ρ, fun m ρ _ => Cert.KernelIdeal.Conv.frame m ρ, fun m ρ _ => Cert.KernelIdeal.Conv.frame m ρ,
    fun m ρ _ => Cert.ReferenceIdeal.Gen.frame m ρ, fun m ρ _ => Cert.ReferenceIdeal.Gen.frame m ρ, trivial,
    letI := Cert.Pre_scales_are_normal.Gen.facts; algebraic⟩

end Cert.Proof

end
